-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_cst_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_cst_9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_cst_31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S16x1x1024x8x8 : Shape := ⟨5, ![16, 1, 1024, 8, 8]⟩
abbrev S3x8x8 : Shape := ⟨3, ![3, 8, 8]⟩
abbrev S8x8 : Shape := ⟨2, ![8, 8]⟩
abbrev S8x8x257 : Shape := ⟨3, ![8, 8, 257]⟩
abbrev S16x1x1024x8x8x256 : Shape := ⟨6, ![16, 1, 1024, 8, 8, 256]⟩
abbrev S_ : Shape := ⟨0, ![]⟩
abbrev S1x1 : Shape := ⟨2, ![1, 1]⟩
abbrev S1x1x257 : Shape := ⟨3, ![1, 1, 257]⟩
abbrev S257 : Shape := ⟨1, ![257]⟩
abbrev S8x8x256 : Shape := ⟨3, ![8, 8, 256]⟩

class Facts : Prop where
  bcast_S_S3x8x8 : S_.BroadcastsInDim S3x8x8 (![] : Fin 0 → Fin S3x8x8.rank)
  bcast_S_S8x8 : S_.BroadcastsInDim S8x8 (![] : Fin 0 → Fin S8x8.rank)
  slices_S8x8_S1x1_0_0 : S8x8.Slices ![0, 0] S1x1
  shapeCasts_S1x1_S_ : S1x1.ShapeCasts S_
  bcast_S_S8x8x257 : S_.BroadcastsInDim S8x8x257 (![] : Fin 0 → Fin S8x8x257.rank)
  slices_S8x8x257_S1x1x257_0_0_0 : S8x8x257.Slices ![0, 0, 0] S1x1x257
  shapeCasts_S1x1x257_S257 : S1x1x257.ShapeCasts S257
  bcast_S257_S1x1x257_2 : S257.BroadcastsInDim S1x1x257 (![2] : Fin 1 → Fin S1x1x257.rank)
  bcast_S1x1x257_S8x8x257_0_1_2 : S1x1x257.BroadcastsInDim S8x8x257 (![0, 1, 2] : Fin 3 → Fin S8x8x257.rank)
  slices_S8x8x257_S8x8x256_0_0_1 : S8x8x257.Slices ![0, 0, 1] S8x8x256
  slices_S8x8x257_S8x8x256_0_0_0 : S8x8x257.Slices ![0, 0, 0] S8x8x256
  bcast_S_S16x1x1024x8x8x256 : S_.BroadcastsInDim S16x1x1024x8x8x256 (![] : Fin 0 → Fin S16x1x1024x8x8x256.rank)

variable [Facts]

def fn_part2 {F : FTy → Type} [FloatOps F] (main_arg5 : FVec F S8x8x257 .f32) (main_arg6 : FVec F S16x1x1024x8x8x256 .f32) (main_v2 : IVec S_ 1) (main_v7 : IVec S3x8x8 1) (main_v17 : IVec S8x8 1) (main_v25 : IVec S8x8 1) (main_v35 : IVec S8x8 1) (main_v36 : FVec F S8x8x257 .f32) (main_v37 : FVec F S8x8x257 .f32) : IVec S_ 1 × IVec S3x8x8 1 × IVec S8x8 1 × IVec S8x8 1 × IVec S8x8 1 × IVec S8x8x257 1 × IVec S8x8x256 1 × IVec S16x1x1024x8x8x256 1 :=
  let main_v38 : IVec S8x8x257 1 := cmpf .olt main_v36 main_v37
  let main_v39 : FVec F S1x1x257 .f32 := (extractStridedSlice S1x1x257 ![0, 0, 0] · slices_S8x8x257_S1x1x257_0_0_0) main_arg5
  let main_v40 : FVec F S257 .f32 := shapeCast S257 main_v39 shapeCasts_S1x1x257_S257
  let main_v41 : FVec F S1x1x257 .f32 := broadcastInDim S1x1x257 ![2] bcast_S257_S1x1x257_2 main_v40
  let main_v42 : FVec F S8x8x257 .f32 := broadcastInDim S8x8x257 ![0, 1, 2] bcast_S1x1x257_S8x8x257_0_1_2 main_v41
  let main_v43 : IVec S8x8x257 1 := cmpf .oeq main_arg5 main_v42
  let main_v44 : IVec S8x8x257 1 := andi main_v38 main_v43
  let main_v45 : FVec F S8x8x256 .f32 := (extractStridedSlice S8x8x256 ![0, 0, 1] · slices_S8x8x257_S8x8x256_0_0_1) main_arg5
  let main_v46 : FVec F S8x8x256 .f32 := (extractStridedSlice S8x8x256 ![0, 0, 0] · slices_S8x8x257_S8x8x256_0_0_0) main_arg5
  let main_v47 : IVec S8x8x256 1 := cmpf .oge main_v45 main_v46
  let main_v48 : FVec F S16x1x1024x8x8x256 .f32 := Host.absf main_arg6
  let main_cst_8 : FVec F S_ .f32 := constant S_ .f32 0x7F800000#32
  let main_v49 : FVec F S16x1x1024x8x8x256 .f32 := broadcastInDim S16x1x1024x8x8x256 ![] bcast_S_S16x1x1024x8x8x256 main_cst_8
  let main_v50 : IVec S16x1x1024x8x8x256 1 := cmpf .olt main_v48 main_v49
  (main_v2, main_v7, main_v17, main_v25, main_v35, main_v44, main_v47, main_v50)

def fn_part1 {F : FTy → Type} [FloatOps F] (main_arg3 : FVec F S8x8 .f32) (main_arg4 : FVec F S8x8 .f32) (main_arg5 : FVec F S8x8x257 .f32) (main_arg6 : FVec F S16x1x1024x8x8x256 .f32) (main_v2 : IVec S_ 1) (main_v7 : IVec S3x8x8 1) (main_v17 : IVec S8x8 1) : IVec S_ 1 × IVec S3x8x8 1 × IVec S8x8 1 × IVec S8x8 1 × IVec S8x8 1 × IVec S8x8x257 1 × IVec S8x8x256 1 × IVec S16x1x1024x8x8x256 1 :=
  let main_v18 : FVec F S8x8 .f32 := Host.absf main_arg3
  let main_cst_4 : FVec F S_ .f32 := constant S_ .f32 0x7F800000#32
  let main_v19 : FVec F S8x8 .f32 := broadcastInDim S8x8 ![] bcast_S_S8x8 main_cst_4
  let main_v20 : IVec S8x8 1 := cmpf .olt main_v18 main_v19
  let main_v21 : FVec F S1x1 .f32 := (extractStridedSlice S1x1 ![0, 0] · slices_S8x8_S1x1_0_0) main_arg3
  let main_v22 : FVec F S_ .f32 := shapeCast S_ main_v21 shapeCasts_S1x1_S_
  let main_v23 : FVec F S8x8 .f32 := broadcastInDim S8x8 ![] bcast_S_S8x8 main_v22
  let main_v24 : IVec S8x8 1 := cmpf .oeq main_arg3 main_v23
  let main_v25 : IVec S8x8 1 := andi main_v20 main_v24
  let main_cst_5 : FVec F S_ .f32 := constant S_ .f32 0x00000000#32
  let main_v26 : FVec F S8x8 .f32 := broadcastInDim S8x8 ![] bcast_S_S8x8 main_cst_5
  let main_v27 : IVec S8x8 1 := cmpf .ogt main_arg4 main_v26
  let main_cst_6 : FVec F S_ .f32 := constant S_ .f32 0x7F800000#32
  let main_v28 : FVec F S8x8 .f32 := broadcastInDim S8x8 ![] bcast_S_S8x8 main_cst_6
  let main_v29 : IVec S8x8 1 := cmpf .olt main_arg4 main_v28
  let main_v30 : IVec S8x8 1 := andi main_v27 main_v29
  let main_v31 : FVec F S1x1 .f32 := (extractStridedSlice S1x1 ![0, 0] · slices_S8x8_S1x1_0_0) main_arg4
  let main_v32 : FVec F S_ .f32 := shapeCast S_ main_v31 shapeCasts_S1x1_S_
  let main_v33 : FVec F S8x8 .f32 := broadcastInDim S8x8 ![] bcast_S_S8x8 main_v32
  let main_v34 : IVec S8x8 1 := cmpf .oeq main_arg4 main_v33
  let main_v35 : IVec S8x8 1 := andi main_v30 main_v34
  let main_v36 : FVec F S8x8x257 .f32 := Host.absf main_arg5
  let main_cst_7 : FVec F S_ .f32 := constant S_ .f32 0x7F800000#32
  let main_v37 : FVec F S8x8x257 .f32 := broadcastInDim S8x8x257 ![] bcast_S_S8x8x257 main_cst_7
  fn_part2 (F := F) main_arg5 main_arg6 main_v2 main_v7 main_v17 main_v25 main_v35 main_v36 main_v37

def fn {F : FTy → Type} [FloatOps F] (main_arg0 : FVec F S16x1x1024x8x8 .f32) (main_arg1 : FVec F S3x8x8 .f32) (main_arg2 : FVec F S8x8 .f32) (main_arg3 : FVec F S8x8 .f32) (main_arg4 : FVec F S8x8 .f32) (main_arg5 : FVec F S8x8x257 .f32) (main_arg6 : FVec F S16x1x1024x8x8x256 .f32) (main_arg7 : IVec S_ 32) : IVec S_ 1 × IVec S3x8x8 1 × IVec S8x8 1 × IVec S8x8 1 × IVec S8x8 1 × IVec S8x8x257 1 × IVec S8x8x256 1 × IVec S16x1x1024x8x8x256 1 :=
  let main_c : IVec S_ 32 := constantI S_ 32 0#32
  let main_v0 : IVec S_ 1 := cmpi .sge main_arg7 main_c
  let main_c_0 : IVec S_ 32 := constantI S_ 32 3#32
  let main_v1 : IVec S_ 1 := cmpi .slt main_arg7 main_c_0
  let main_v2 : IVec S_ 1 := andi main_v0 main_v1
  let main_cst : FVec F S_ .f32 := constant S_ .f32 0x00000000#32
  let main_v3 : FVec F S3x8x8 .f32 := broadcastInDim S3x8x8 ![] bcast_S_S3x8x8 main_cst
  let main_v4 : IVec S3x8x8 1 := cmpf .ogt main_arg1 main_v3
  let main_cst_1 : FVec F S_ .f32 := constant S_ .f32 0x7F800000#32
  let main_v5 : FVec F S3x8x8 .f32 := broadcastInDim S3x8x8 ![] bcast_S_S3x8x8 main_cst_1
  let main_v6 : IVec S3x8x8 1 := cmpf .olt main_arg1 main_v5
  let main_v7 : IVec S3x8x8 1 := andi main_v4 main_v6
  let main_cst_2 : FVec F S_ .f32 := constant S_ .f32 0x00000000#32
  let main_v8 : FVec F S8x8 .f32 := broadcastInDim S8x8 ![] bcast_S_S8x8 main_cst_2
  let main_v9 : IVec S8x8 1 := cmpf .oge main_arg2 main_v8
  let main_cst_3 : FVec F S_ .f32 := constant S_ .f32 0x7F800000#32
  let main_v10 : FVec F S8x8 .f32 := broadcastInDim S8x8 ![] bcast_S_S8x8 main_cst_3
  let main_v11 : IVec S8x8 1 := cmpf .olt main_arg2 main_v10
  let main_v12 : IVec S8x8 1 := andi main_v9 main_v11
  let main_v13 : FVec F S1x1 .f32 := (extractStridedSlice S1x1 ![0, 0] · slices_S8x8_S1x1_0_0) main_arg2
  let main_v14 : FVec F S_ .f32 := shapeCast S_ main_v13 shapeCasts_S1x1_S_
  let main_v15 : FVec F S8x8 .f32 := broadcastInDim S8x8 ![] bcast_S_S8x8 main_v14
  let main_v16 : IVec S8x8 1 := cmpf .oeq main_arg2 main_v15
  let main_v17 : IVec S8x8 1 := andi main_v12 main_v16
  fn_part1 (F := F) main_arg3 main_arg4 main_arg5 main_arg6 main_v2 main_v7 main_v17
-- ==== Kernel.lean ====
abbrev S16x1x1024x8x8 : Shape := ⟨5, ![16, 1, 1024, 8, 8]⟩
abbrev S3x8x8 : Shape := ⟨3, ![3, 8, 8]⟩
abbrev S8x8 : Shape := ⟨2, ![8, 8]⟩
abbrev S8x8x257 : Shape := ⟨3, ![8, 8, 257]⟩
abbrev S16x1x1024x8x8x256 : Shape := ⟨6, ![16, 1, 1024, 8, 8, 256]⟩
abbrev S_ : Shape := ⟨0, ![]⟩
abbrev S1 : Shape := ⟨1, ![1]⟩
abbrev S1x64 : Shape := ⟨2, ![1, 64]⟩
abbrev S64 : Shape := ⟨1, ![64]⟩
abbrev S64x257 : Shape := ⟨2, ![64, 257]⟩
abbrev S1x257 : Shape := ⟨2, ![1, 257]⟩
abbrev S257 : Shape := ⟨1, ![257]⟩
abbrev S256 : Shape := ⟨1, ![256]⟩
abbrev S1x256 : Shape := ⟨2, ![1, 256]⟩
abbrev S2x256 : Shape := ⟨2, ![2, 256]⟩
abbrev S256x128 : Shape := ⟨2, ![256, 128]⟩
abbrev S16384x64 : Shape := ⟨2, ![16384, 64]⟩
abbrev S16384x64x256 : Shape := ⟨3, ![16384, 64, 256]⟩
abbrev S1x1x1x8x8 : Shape := ⟨5, ![1, 1, 1, 8, 8]⟩
abbrev S1048576x1 : Shape := ⟨2, ![1048576, 1]⟩
abbrev S1048576x2 : Shape := ⟨2, ![1048576, 2]⟩
abbrev S2x1x64 : Shape := ⟨3, ![2, 1, 64]⟩
abbrev S128x64 : Shape := ⟨2, ![128, 64]⟩
abbrev S8192x2 : Shape := ⟨2, ![8192, 2]⟩
abbrev S128x64x256 : Shape := ⟨3, ![128, 64, 256]⟩
abbrev S1x1x64 : Shape := ⟨3, ![1, 1, 64]⟩
abbrev S8192x256 : Shape := ⟨2, ![8192, 256]⟩
abbrev S128x64x255 : Shape := ⟨3, ![128, 64, 255]⟩
abbrev S128x64x1 : Shape := ⟨3, ![128, 64, 1]⟩
abbrev S8192x128 : Shape := ⟨2, ![8192, 128]⟩
abbrev S128x64x128 : Shape := ⟨3, ![128, 64, 128]⟩

abbrev nBuf : Space → Nat
  | .hbm => 123
  | .vmem => 16
  | .smem => 0
  | _ => 0

abbrev bufTy : (tb : Table) → Fin (tcTables nBuf tb) → BufTy
  | .hbm, ⟨0, _⟩ => ⟨S16x1x1024x8x8, .f32⟩
  | .hbm, ⟨1, _⟩ => ⟨S3x8x8, .f32⟩
  | .hbm, ⟨2, _⟩ => ⟨S8x8, .f32⟩
  | .hbm, ⟨3, _⟩ => ⟨S8x8, .f32⟩
  | .hbm, ⟨4, _⟩ => ⟨S8x8, .f32⟩
  | .hbm, ⟨5, _⟩ => ⟨S8x8x257, .f32⟩
  | .hbm, ⟨6, _⟩ => ⟨S16x1x1024x8x8x256, .f32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S1, .i1⟩
  | .hbm, ⟨19, _⟩ => ⟨S1, .i1⟩
  | .hbm, ⟨20, _⟩ => ⟨S_, .i1⟩
  | .hbm, ⟨21, _⟩ => ⟨S_, .i1⟩
  | .hbm, ⟨22, _⟩ => ⟨S8x8, .f32⟩
  | .hbm, ⟨23, _⟩ => ⟨S8x8, .i1⟩
  | .hbm, ⟨24, _⟩ => ⟨S_, .f32⟩
  | .hbm, ⟨25, _⟩ => ⟨S8x8, .f32⟩
  | .hbm, ⟨26, _⟩ => ⟨S8x8, .f32⟩
  | .hbm, ⟨27, _⟩ => ⟨S1x64, .f32⟩
  | .hbm, ⟨28, _⟩ => ⟨S64, .f32⟩
  | .hbm, ⟨29, _⟩ => ⟨S1, .f32⟩
  | .hbm, ⟨30, _⟩ => ⟨S_, .f32⟩
  | .hbm, ⟨31, _⟩ => ⟨S64x257, .f32⟩
  | .hbm, ⟨32, _⟩ => ⟨S1x257, .f32⟩
  | .hbm, ⟨33, _⟩ => ⟨S257, .f32⟩
  | .hbm, ⟨34, _⟩ => ⟨S64, .f32⟩
  | .hbm, ⟨35, _⟩ => ⟨S1, .f32⟩
  | .hbm, ⟨36, _⟩ => ⟨S_, .f32⟩
  | .hbm, ⟨37, _⟩ => ⟨S257, .f32⟩
  | .hbm, ⟨38, _⟩ => ⟨S257, .f32⟩
  | .hbm, ⟨39, _⟩ => ⟨S64, .f32⟩
  | .hbm, ⟨40, _⟩ => ⟨S1, .f32⟩
  | .hbm, ⟨41, _⟩ => ⟨S_, .f32⟩
  | .hbm, ⟨42, _⟩ => ⟨S257, .f32⟩
  | .hbm, ⟨43, _⟩ => ⟨S257, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1x64, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S1x256, .f32⟩
  | .hbm, ⟨61, _⟩ => ⟨S1x256, .f32⟩
  | .hbm, ⟨62, _⟩ => ⟨S2x256, .f32⟩
  | .hbm, ⟨63, _⟩ => ⟨S_, .f32⟩
  | .hbm, ⟨64, _⟩ => ⟨S256x128, .f32⟩
  | .hbm, ⟨65, _⟩ => ⟨S256, .f32⟩
  | .hbm, ⟨66, _⟩ => ⟨S_, .i32⟩
  | .hbm, ⟨67, _⟩ => ⟨S1, .i32⟩
  | .hbm, ⟨68, _⟩ => ⟨S256x128, .f32⟩
  | .hbm, ⟨69, _⟩ => ⟨S_, .i32⟩
  | .hbm, ⟨70, _⟩ => ⟨S1, .i32⟩
  | .hbm, ⟨71, _⟩ => ⟨S_, .f32⟩
  | .hbm, ⟨72, _⟩ => ⟨S256, .f32⟩
  | .hbm, ⟨73, _⟩ => ⟨S256x128, .f32⟩
  | .hbm, ⟨74, _⟩ => ⟨S_, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S1x64, .f32⟩
  | .hbm, ⟨81, _⟩ => ⟨S16384x64, .f32⟩
  | .hbm, ⟨82, _⟩ => ⟨S16384x64x256, .f32⟩
  | .hbm, ⟨83, _⟩ => ⟨S_, .i32⟩
  | .hbm, ⟨84, _⟩ => ⟨S_, .i1⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S1, .i32⟩
  | .hbm, ⟨89, _⟩ => ⟨S1, .i32⟩
  | .hbm, ⟨90, _⟩ => ⟨S_, .i32⟩
  | .hbm, ⟨91, _⟩ => ⟨S1, .i32⟩
  | .hbm, ⟨92, _⟩ => ⟨S1, .i1⟩
  | .hbm, ⟨93, _⟩ => ⟨S1, .i1⟩
  | .hbm, ⟨94, _⟩ => ⟨S1, .i1⟩
  | .hbm, ⟨95, _⟩ => ⟨S_, .i1⟩
  | .hbm, ⟨96, _⟩ => ⟨S_, .i1⟩
  | .hbm, ⟨97, _⟩ => ⟨S8x8, .f32⟩
  | .hbm, ⟨98, _⟩ => ⟨S8x8, .i1⟩
  | .hbm, ⟨99, _⟩ => ⟨S_, .f32⟩
  | .hbm, ⟨100, _⟩ => ⟨S8x8, .f32⟩
  | .hbm, ⟨101, _⟩ => ⟨S8x8, .f32⟩
  | .hbm, ⟨102, _⟩ => ⟨S8x8, .f32⟩
  | .hbm, ⟨103, _⟩ => ⟨S8x8, .f32⟩
  | .hbm, ⟨104, _⟩ => ⟨S8x8, .f32⟩
  | .hbm, ⟨105, _⟩ => ⟨S8x8, .f32⟩
  | .hbm, ⟨106, _⟩ => ⟨S1x1x1x8x8, .f32⟩
  | .hbm, ⟨107, _⟩ => ⟨S16x1x1024x8x8, .f32⟩
  | .hbm, ⟨108, _⟩ => ⟨S16x1x1024x8x8, .f32⟩
  | .hbm, ⟨109, _⟩ => ⟨S1048576x1, .f32⟩
  | .hbm, ⟨110, _⟩ => ⟨S_, .f32⟩
  | .hbm, ⟨111, _⟩ => ⟨S1048576x1, .f32⟩
  | .hbm, ⟨112, _⟩ => ⟨S1048576x2, .f32⟩
  | .hbm, ⟨113, _⟩ => ⟨S16384x64, .f32⟩
  | .hbm, ⟨114, _⟩ => ⟨S2x1x64, .f32⟩
  | .hbm, ⟨115, _⟩ => ⟨S16x1x1024x8x8, .f32⟩
  | .hbm, ⟨116, _⟩ => ⟨S_, .f32⟩
  | .hbm, ⟨117, _⟩ => ⟨S64, .f32⟩
  | .hbm, ⟨118, _⟩ => ⟨S_, .f32⟩
  | .hbm, ⟨119, _⟩ => ⟨S64, .f32⟩
  | .hbm, ⟨120, _⟩ => ⟨S64, .f32⟩
  | .hbm, ⟨121, _⟩ => ⟨S8x8, .f32⟩
  | .hbm, ⟨122, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S8192x2, .f32⟩
  | .local _ .vmem, ⟨3, _⟩ => ⟨S8192x2, .f32⟩
  | .local _ .vmem, ⟨4, _⟩ => ⟨S128x64x256, .f32⟩
  | .local _ .vmem, ⟨5, _⟩ => ⟨S128x64x256, .f32⟩
  | .local _ .vmem, ⟨6, _⟩ => ⟨S2x256, .f32⟩
  | .local _ .vmem, ⟨7, _⟩ => ⟨S256x128, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S128x64, .f32⟩
  | .local _ .vmem, ⟨13, _⟩ => ⟨S128x64, .f32⟩
  | .local _ .vmem, ⟨14, _⟩ => ⟨S1x1x64, .f32⟩
  | .local _ .vmem, ⟨15, _⟩ => ⟨S1x1x64, .f32⟩
  | _, _ => ⟨S16x1x1024x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_c_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_c_3 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_cst : Ref sig .tc := ⟨.hbm, 24, rfl⟩
abbrev main_call0_v11 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst : Ref sig .tc := ⟨.hbm, 44, rfl⟩
abbrev main_v18 : Ref sig .tc := ⟨.hbm, 45, rfl⟩
abbrev main_cst_0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_2 : Ref sig .tc := ⟨.hbm, 63, rfl⟩
abbrev main_v34 : Ref sig .tc := ⟨.hbm, 64, rfl⟩
abbrev main_v35 : Ref sig .tc := ⟨.hbm, 65, rfl⟩
abbrev main_c : Ref sig .tc := ⟨.hbm, 66, rfl⟩
abbrev main_v36 : Ref sig .tc := ⟨.hbm, 67, rfl⟩
abbrev main_v37 : Ref sig .tc := ⟨.hbm, 68, rfl⟩
abbrev main_c_3 : Ref sig .tc := ⟨.hbm, 69, rfl⟩
abbrev main_v38 : Ref sig .tc := ⟨.hbm, 70, rfl⟩
abbrev main_cst_4 : Ref sig .tc := ⟨.hbm, 71, rfl⟩
abbrev main_v39 : Ref sig .tc := ⟨.hbm, 72, rfl⟩
abbrev main_v40 : Ref sig .tc := ⟨.hbm, 73, rfl⟩
abbrev main_cst_5 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call1_c : Ref sig .tc := ⟨.hbm, 83, rfl⟩
abbrev main_call1_v0 : Ref sig .tc := ⟨.hbm, 84, rfl⟩
abbrev main_call1_c_0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_c_1 : Ref sig .tc := ⟨.hbm, 89, rfl⟩
abbrev main_call1_c_2 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_c_3 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_cst : Ref sig .tc := ⟨.hbm, 99, rfl⟩
abbrev main_call1_v11 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_6 : Ref sig .tc := ⟨.hbm, 110, rfl⟩
abbrev main_v58 : Ref sig .tc := ⟨.hbm, 111, rfl⟩
abbrev main_v59 : Ref sig .tc := ⟨.hbm, 112, rfl⟩
abbrev main_v60_0 : Ref sig .tc := ⟨.hbm, 113, rfl⟩
abbrev main_v60_1 : Ref sig .tc := ⟨.hbm, 114, rfl⟩
abbrev main_v61 : Ref sig .tc := ⟨.hbm, 115, rfl⟩
abbrev main_cst_7 : Ref sig .tc := ⟨.hbm, 116, rfl⟩
abbrev main_v62 : Ref sig .tc := ⟨.hbm, 117, rfl⟩
abbrev main_cst_8 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_9 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S16x1x1024x8x8 : Shape := ⟨5, ![16, 1, 1024, 8, 8]⟩
abbrev S3x8x8 : Shape := ⟨3, ![3, 8, 8]⟩
abbrev S8x8 : Shape := ⟨2, ![8, 8]⟩
abbrev S8x8x257 : Shape := ⟨3, ![8, 8, 257]⟩
abbrev S16x1x1024x8x8x256 : Shape := ⟨6, ![16, 1, 1024, 8, 8, 256]⟩
abbrev S_ : Shape := ⟨0, ![]⟩
abbrev S1x8x8 : Shape := ⟨3, ![1, 8, 8]⟩
abbrev S1x1x1x8x8 : Shape := ⟨5, ![1, 1, 1, 8, 8]⟩
abbrev S16384x8x8 : Shape := ⟨3, ![16384, 8, 8]⟩
abbrev S8x8x1 : Shape := ⟨3, ![8, 8, 1]⟩
abbrev S16x1x1024x8x8x1 : Shape := ⟨6, ![16, 1, 1024, 8, 8, 1]⟩
abbrev S1x1x1x8x8x257 : Shape := ⟨6, ![1, 1, 1, 8, 8, 257]⟩
abbrev S16x1x1024x8x8x257 : Shape := ⟨6, ![16, 1, 1024, 8, 8, 257]⟩
abbrev S1x1x1x8x8x1 : Shape := ⟨6, ![1, 1, 1, 8, 8, 1]⟩
abbrev S8x8x256 : Shape := ⟨3, ![8, 8, 256]⟩
abbrev S1x1x1x8x8x256 : Shape := ⟨6, ![1, 1, 1, 8, 8, 256]⟩

abbrev nBuf : Space → Nat
  | .hbm => 123
  | .vmem => 0
  | .smem => 0
  | _ => 0

abbrev bufTy : (tb : Table) → Fin (tcTables nBuf tb) → BufTy
  | .hbm, ⟨0, _⟩ => ⟨S16x1x1024x8x8, .f32⟩
  | .hbm, ⟨1, _⟩ => ⟨S3x8x8, .f32⟩
  | .hbm, ⟨2, _⟩ => ⟨S8x8, .f32⟩
  | .hbm, ⟨3, _⟩ => ⟨S8x8, .f32⟩
  | .hbm, ⟨4, _⟩ => ⟨S8x8, .f32⟩
  | .hbm, ⟨5, _⟩ => ⟨S8x8x257, .f32⟩
  | .hbm, ⟨6, _⟩ => ⟨S16x1x1024x8x8x256, .f32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1x8x8, .f32⟩
  | .hbm, ⟨30, _⟩ => ⟨S8x8, .f32⟩
  | .hbm, ⟨31, _⟩ => ⟨S1x1x1x8x8, .f32⟩
  | .hbm, ⟨32, _⟩ => ⟨S16x1x1024x8x8, .f32⟩
  | .hbm, ⟨33, _⟩ => ⟨S16x1x1024x8x8, .f32⟩
  | .hbm, ⟨34, _⟩ => ⟨S16384x8x8, .f32⟩
  | .hbm, ⟨35, _⟩ => ⟨S16384x8x8, .f32⟩
  | .hbm, ⟨36, _⟩ => ⟨S_, .f32⟩
  | .hbm, ⟨37, _⟩ => ⟨S8x8, .f32⟩
  | .hbm, ⟨38, _⟩ => ⟨S_, .f32⟩
  | .hbm, ⟨39, _⟩ => ⟨S8x8, .f32⟩
  | .hbm, ⟨40, _⟩ => ⟨S8x8, .f32⟩
  | .hbm, ⟨41, _⟩ => ⟨S8x8x1, .f32⟩
  | .hbm, ⟨42, _⟩ => ⟨S8x8x257, .f32⟩
  | .hbm, ⟨43, _⟩ => ⟨S8x8x257, .f32⟩
  | .hbm, ⟨44, _⟩ => ⟨S8x8x1, .f32⟩
  | .hbm, ⟨45, _⟩ => ⟨S8x8x257, .f32⟩
  | .hbm, ⟨46, _⟩ => ⟨S8x8x257, .f32⟩
  | .hbm, ⟨47, _⟩ => ⟨S16x1x1024x8x8x1, .f32⟩
  | .hbm, ⟨48, _⟩ => ⟨S1x1x1x8x8x257, .f32⟩
  | .hbm, ⟨49, _⟩ => ⟨S16x1x1024x8x8x257, .f32⟩
  | .hbm, ⟨50, _⟩ => ⟨S16x1x1024x8x8x257, .f32⟩
  | .hbm, ⟨51, _⟩ => ⟨S16x1x1024x8x8x257, .f32⟩
  | .hbm, ⟨52, _⟩ => ⟨S16x1x1024x8x8x257, .f32⟩
  | .hbm, ⟨53, _⟩ => ⟨S8x8x1, .f32⟩
  | .hbm, ⟨54, _⟩ => ⟨S1x1x1x8x8x1, .f32⟩
  | .hbm, ⟨55, _⟩ => ⟨S16x1x1024x8x8x257, .f32⟩
  | .hbm, ⟨56, _⟩ => ⟨S16x1x1024x8x8x257, .f32⟩
  | .hbm, ⟨57, _⟩ => ⟨S16x1x1024x8x8x257, .f32⟩
  | .hbm, ⟨58, _⟩ => ⟨S16x1x1024x8x8x257, .f32⟩
  | .hbm, ⟨59, _⟩ => ⟨S_, .f32⟩
  | .hbm, ⟨60, _⟩ => ⟨S16x1x1024x8x8x257, .f32⟩
  | .hbm, ⟨61, _⟩ => ⟨S16x1x1024x8x8x257, .f32⟩
  | .hbm, ⟨62, _⟩ => ⟨S_, .f32⟩
  | .hbm, ⟨63, _⟩ => ⟨S16x1x1024x8x8x257, .f32⟩
  | .hbm, ⟨64, _⟩ => ⟨S16x1x1024x8x8x257, .f32⟩
  | .hbm, ⟨65, _⟩ => ⟨S16x1x1024x8x8x256, .f32⟩
  | .hbm, ⟨66, _⟩ => ⟨S16x1x1024x8x8x256, .f32⟩
  | .hbm, ⟨67, _⟩ => ⟨S16x1x1024x8x8x256, .f32⟩
  | .hbm, ⟨68, _⟩ => ⟨S_, .f32⟩
  | .hbm, ⟨69, _⟩ => ⟨S16x1x1024x8x8x256, .f32⟩
  | .hbm, ⟨70, _⟩ => ⟨S16x1x1024x8x8x256, .f32⟩
  | .hbm, ⟨71, _⟩ => ⟨S16x1x1024x8x8x1, .f32⟩
  | .hbm, ⟨72, _⟩ => ⟨S16x1x1024x8x8x1, .f32⟩
  | .hbm, ⟨73, _⟩ => ⟨S16x1x1024x8x8x1, .f32⟩
  | .hbm, ⟨74, _⟩ => ⟨S_, .f32⟩
  | .hbm, ⟨75, _⟩ => ⟨S16x1x1024x8x8x1, .f32⟩
  | .hbm, ⟨76, _⟩ => ⟨S16x1x1024x8x8x1, .f32⟩
  | .hbm, ⟨77, _⟩ => ⟨S16x1x1024x8x8x256, .f32⟩
  | .hbm, ⟨78, _⟩ => ⟨S16x1x1024x8x8x256, .f32⟩
  | .hbm, ⟨79, _⟩ => ⟨S16x1x1024x8x8x256, .f32⟩
  | .hbm, ⟨80, _⟩ => ⟨S16x1x1024x8x8x256, .f32⟩
  | .hbm, ⟨81, _⟩ => ⟨S_, .f32⟩
  | .hbm, ⟨82, _⟩ => ⟨S16x1x1024x8x8x256, .f32⟩
  | .hbm, ⟨83, _⟩ => ⟨S16x1x1024x8x8x256, .f32⟩
  | .hbm, ⟨84, _⟩ => ⟨S16x1x1024x8x8x256, .f32⟩
  | .hbm, ⟨85, _⟩ => ⟨S_, .f32⟩
  | .hbm, ⟨86, _⟩ => ⟨S16x1x1024x8x8, .f32⟩
  | .hbm, ⟨87, _⟩ => ⟨S16x1x1024x8x8x1, .f32⟩
  | .hbm, ⟨88, _⟩ => ⟨S16x1x1024x8x8x256, .f32⟩
  | .hbm, ⟨89, _⟩ => ⟨S16x1x1024x8x8x256, .f32⟩
  | .hbm, ⟨90, _⟩ => ⟨S8x8x256, .f32⟩
  | .hbm, ⟨91, _⟩ => ⟨S1x1x1x8x8x256, .f32⟩
  | .hbm, ⟨92, _⟩ => ⟨S16x1x1024x8x8x256, .f32⟩
  | .hbm, ⟨93, _⟩ => ⟨S16x1x1024x8x8x256, .f32⟩
  | .hbm, ⟨94, _⟩ => ⟨S_, .f32⟩
  | .hbm, ⟨95, _⟩ => ⟨S16x1x1024x8x8, .f32⟩
  | .hbm, ⟨96, _⟩ => ⟨S_, .i32⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i1⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i1⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S1x8x8, .f32⟩
  | .hbm, ⟨118, _⟩ => ⟨S8x8, .f32⟩
  | .hbm, ⟨119, _⟩ => ⟨S1x1x1x8x8, .f32⟩
  | .hbm, ⟨120, _⟩ => ⟨S16x1x1024x8x8, .f32⟩
  | .hbm, ⟨121, _⟩ => ⟨S16x1x1024x8x8, .f32⟩
  | .hbm, ⟨122, _⟩ => ⟨S_, .f32⟩
  | _, _ => ⟨S16x1x1024x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_c_2 : Ref sig .tc := ⟨.hbm, 14, rfl⟩
abbrev main_v3 : Ref sig .tc := ⟨.hbm, 15, rfl⟩
abbrev main_c_3 : Ref sig .tc := ⟨.hbm, 16, rfl⟩
abbrev main_c_4 : Ref sig .tc := ⟨.hbm, 17, rfl⟩
abbrev main_v4 : Ref sig .tc := ⟨.hbm, 18, rfl⟩
abbrev main_c_5 : Ref sig .tc := ⟨.hbm, 19, rfl⟩
abbrev main_v5 : Ref sig .tc := ⟨.hbm, 20, rfl⟩
abbrev main_c_6 : Ref sig .tc := ⟨.hbm, 21, rfl⟩
abbrev main_c_7 : Ref sig .tc := ⟨.hbm, 22, rfl⟩
abbrev main_v6 : Ref sig .tc := ⟨.hbm, 23, rfl⟩
abbrev main_c_8 : Ref sig .tc := ⟨.hbm, 24, rfl⟩
abbrev main_c_9 : Ref sig .tc := ⟨.hbm, 25, rfl⟩
abbrev main_v7 : Ref sig .tc := ⟨.hbm, 26, rfl⟩
abbrev main_c_10 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_cst_11 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_cst_13 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_15 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_16 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_17 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_18 : Ref sig .tc := ⟨.hbm, 94, rfl⟩
abbrev main_v66 : Ref sig .tc := ⟨.hbm, 95, rfl⟩
abbrev main_c_19 : Ref sig .tc := ⟨.hbm, 96, rfl⟩
abbrev main_v67 : Ref sig .tc := ⟨.hbm, 97, rfl⟩
abbrev main_c_20 : Ref sig .tc := ⟨.hbm, 98, rfl⟩
abbrev main_v68 : Ref sig .tc := ⟨.hbm, 99, rfl⟩
abbrev main_v69 : Ref sig .tc := ⟨.hbm, 100, rfl⟩
abbrev main_c_21 : Ref sig .tc := ⟨.hbm, 101, rfl⟩
abbrev main_c_22 : Ref sig .tc := ⟨.hbm, 102, rfl⟩
abbrev main_v70 : Ref sig .tc := ⟨.hbm, 103, rfl⟩
abbrev main_c_23 : Ref sig .tc := ⟨.hbm, 104, rfl⟩
abbrev main_c_24 : Ref sig .tc := ⟨.hbm, 105, rfl⟩
abbrev main_v71 : Ref sig .tc := ⟨.hbm, 106, rfl⟩
abbrev main_c_25 : Ref sig .tc := ⟨.hbm, 107, rfl⟩
abbrev main_v72 : Ref sig .tc := ⟨.hbm, 108, rfl⟩
abbrev main_c_26 : Ref sig .tc := ⟨.hbm, 109, rfl⟩
abbrev main_c_27 : Ref sig .tc := ⟨.hbm, 110, rfl⟩
abbrev main_v73 : Ref sig .tc := ⟨.hbm, 111, rfl⟩
abbrev main_c_28 : Ref sig .tc := ⟨.hbm, 112, rfl⟩
abbrev main_c_29 : Ref sig .tc := ⟨.hbm, 113, rfl⟩
abbrev main_v74 : Ref sig .tc := ⟨.hbm, 114, rfl⟩
abbrev main_c_30 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_31 : Ref sig .tc := ⟨.hbm, 122, rfl⟩

abbrev nD : Nat := 1
abbrev τ : Topo := Topo.v7x

variable {F : FTy → Type} [FloatOps F]
-- ==== Proof.RefStages.lean ====
/-
  The reference program as its list of host operations, in nine stages, and its run: every array ends at what the
  stages leave of the launch contents, and every semaphore counter at zero.
-/
module

public import proofs.«01_k».proof.Proof.Gen.ReferenceIdeal
public import Idealize.ShloMosaic.Lib.StableHlo.Run
public import Idealize.ShloMosaic.Lib.StableHlo.ReadAt
public import Idealize.ShloMosaic.Lib.Quiescent
public import Idealize.ShloMosaic.Lib.Pointwise

@[expose] public section

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The selected row of the resizing table. -/
abbrev opsRow : List (HloOp τ sig (Elt F)) :=
  [ nullary main_c (constantI S_ 32 0#32),
    binary main_arg7 main_c main_v0 (cmpi .slt : (⟨S_, .i32⟩ : BufTy).Contents (Elt F) → (⟨S_, .i32⟩ : BufTy).Contents (Elt F) → (⟨S_, .i1⟩ : BufTy).Contents (Elt F)),
    nullary main_c_0 (constantI S_ 32 3#32),
    binary main_arg7 main_c_0 main_v1 (addi : (⟨S_, .i32⟩ : BufTy).Contents (Elt F) → (⟨S_, .i32⟩ : BufTy).Contents (Elt F) → (⟨S_, .i32⟩ : BufTy).Contents (Elt F)),
    ternary main_v0 main_v1 main_arg7 main_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v3 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 8#32),
    binary main_c_3 main_c_4 main_v4 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v3 main_v4 main_c_5 main_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v6 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 8#32),
    binary main_c_8 main_c_9 main_v7 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v6 main_v7 main_c_10 main_v8 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg1 ![main_v2, main_v5, main_v8] ⟨S_, .i32⟩ main_v9 ((fun x i => Host.dynamicSlice S1x8x8 x (fun k => (i k (Shape.Idx.first h_S_)).toInt) sliceFits_S3x8x8_S1x8x8) : (⟨S3x8x8, .f32⟩ : BufTy).Contents (Elt F) → (Fin 3 → (⟨S_, .i32⟩ : BufTy).Contents (Elt F)) → (⟨S1x8x8, .f32⟩ : BufTy).Contents (Elt F)),
    reshape main_v9 main_v10 (rfl : (.f32 : EltTy) = .f32) shapeCasts_S1x8x8_S8x8 ]

/-- The input divided by that row. -/
abbrev opsCell : List (HloOp τ sig (Elt F)) :=
  [ unary main_v10 main_v11 (broadcastInDim S1x1x1x8x8 ![3, 4] bcast_S8x8_S1x1x1x8x8_3_4 : (⟨S8x8, .f32⟩ : BufTy).Contents (Elt F) → (⟨S1x1x1x8x8, .f32⟩ : BufTy).Contents (Elt F)),
    unary main_v11 main_v12 (broadcastInDim S16x1x1024x8x8 ![0, 1, 2, 3, 4] bcast_S1x1x1x8x8_S16x1x1024x8x8_0_1_2_3_4 : (⟨S1x1x1x8x8, .f32⟩ : BufTy).Contents (Elt F) → (⟨S16x1x1024x8x8, .f32⟩ : BufTy).Contents (Elt F)),
    binary main_arg0 main_v12 main_v13 (Host.divf : (⟨S16x1x1024x8x8, .f32⟩ : BufTy).Contents (Elt F) → (⟨S16x1x1024x8x8, .f32⟩ : BufTy).Contents (Elt F) → (⟨S16x1x1024x8x8, .f32⟩ : BufTy).Contents (Elt F)) ]

/-- The mean of its absolute values. -/
abbrev opsMean : List (HloOp τ sig (Elt F)) :=
  [ reshape main_v13 main_v14 (rfl : (.f32 : EltTy) = .f32) shapeCasts_S16x1x1024x8x8_S16384x8x8,
    unary main_v14 main_v15 (Host.absf : (⟨S16384x8x8, .f32⟩ : BufTy).Contents (Elt F) → (⟨S16384x8x8, .f32⟩ : BufTy).Contents (Elt F)),
    nullary main_cst (constant S_ .f32 0x00000000#32),
    binary main_v15 main_cst main_v16 ((fun x v => Host.reduceAdd x v reducesTo_S16384x8x8_S8x8_d0 h_S_) : (⟨S16384x8x8, .f32⟩ : BufTy).Contents (Elt F) → (⟨S_, .f32⟩ : BufTy).Contents (Elt F) → (⟨S8x8, .f32⟩ : BufTy).Contents (Elt F)),
    nullary main_cst_11 (constant S_ .f32 0x46800000#32),
    unary main_cst_11 main_v17 (broadcastInDim S8x8 ![] bcast_S_S8x8 : (⟨S_, .f32⟩ : BufTy).Contents (Elt F) → (⟨S8x8, .f32⟩ : BufTy).Contents (Elt F)),
    binary main_v16 main_v17 main_v18 (Host.divf : (⟨S8x8, .f32⟩ : BufTy).Contents (Elt F) → (⟨S8x8, .f32⟩ : BufTy).Contents (Elt F) → (⟨S8x8, .f32⟩ : BufTy).Contents (Elt F)) ]

/-- The grid of bin edges. -/
abbrev opsGrid : List (HloOp τ sig (Elt F)) :=
  [ unary main_arg2 main_v19 (broadcastInDim S8x8x1 ![0, 1] bcast_S8x8_S8x8x1_0_1 : (⟨S8x8, .f32⟩ : BufTy).Contents (Elt F) → (⟨S8x8x1, .f32⟩ : BufTy).Contents (Elt F)),
    unary main_v19 main_v20 (broadcastInDim S8x8x257 ![0, 1, 2] bcast_S8x8x1_S8x8x257_0_1_2 : (⟨S8x8x1, .f32⟩ : BufTy).Contents (Elt F) → (⟨S8x8x257, .f32⟩ : BufTy).Contents (Elt F)),
    binary main_arg5 main_v20 main_v21 (mulf : (⟨S8x8x257, .f32⟩ : BufTy).Contents (Elt F) → (⟨S8x8x257, .f32⟩ : BufTy).Contents (Elt F) → (⟨S8x8x257, .f32⟩ : BufTy).Contents (Elt F)),
    unary main_arg3 main_v22 (broadcastInDim S8x8x1 ![0, 1] bcast_S8x8_S8x8x1_0_1 : (⟨S8x8, .f32⟩ : BufTy).Contents (Elt F) → (⟨S8x8x1, .f32⟩ : BufTy).Contents (Elt F)),
    unary main_v22 main_v23 (broadcastInDim S8x8x257 ![0, 1, 2] bcast_S8x8x1_S8x8x257_0_1_2 : (⟨S8x8x1, .f32⟩ : BufTy).Contents (Elt F) → (⟨S8x8x257, .f32⟩ : BufTy).Contents (Elt F)),
    binary main_v21 main_v23 main_v24 (addf : (⟨S8x8x257, .f32⟩ : BufTy).Contents (Elt F) → (⟨S8x8x257, .f32⟩ : BufTy).Contents (Elt F) → (⟨S8x8x257, .f32⟩ : BufTy).Contents (Elt F)) ]

/-- The logistic function at every edge. -/
abbrev opsCdf : List (HloOp τ sig (Elt F)) :=
  [ unary main_v13 main_v25 (broadcastInDim S16x1x1024x8x8x1 ![0, 1, 2, 3, 4] bcast_S16x1x1024x8x8_S16x1x1024x8x8x1_0_1_2_3_4 : (⟨S16x1x1024x8x8, .f32⟩ : BufTy).Contents (Elt F) → (⟨S16x1x1024x8x8x1, .f32⟩ : BufTy).Contents (Elt F)),
    unary main_v24 main_v26 (broadcastInDim S1x1x1x8x8x257 ![3, 4, 5] bcast_S8x8x257_S1x1x1x8x8x257_3_4_5 : (⟨S8x8x257, .f32⟩ : BufTy).Contents (Elt F) → (⟨S1x1x1x8x8x257, .f32⟩ : BufTy).Contents (Elt F)),
    unary main_v25 main_v27 (broadcastInDim S16x1x1024x8x8x257 ![0, 1, 2, 3, 4, 5] bcast_S16x1x1024x8x8x1_S16x1x1024x8x8x257_0_1_2_3_4_5 : (⟨S16x1x1024x8x8x1, .f32⟩ : BufTy).Contents (Elt F) → (⟨S16x1x1024x8x8x257, .f32⟩ : BufTy).Contents (Elt F)),
    unary main_v26 main_v28 (broadcastInDim S16x1x1024x8x8x257 ![0, 1, 2, 3, 4, 5] bcast_S1x1x1x8x8x257_S16x1x1024x8x8x257_0_1_2_3_4_5 : (⟨S1x1x1x8x8x257, .f32⟩ : BufTy).Contents (Elt F) → (⟨S16x1x1024x8x8x257, .f32⟩ : BufTy).Contents (Elt F)),
    binary main_v27 main_v28 main_v29 (subf : (⟨S16x1x1024x8x8x257, .f32⟩ : BufTy).Contents (Elt F) → (⟨S16x1x1024x8x8x257, .f32⟩ : BufTy).Contents (Elt F) → (⟨S16x1x1024x8x8x257, .f32⟩ : BufTy).Contents (Elt F)),
    unary main_v29 main_v30 (Host.negf : (⟨S16x1x1024x8x8x257, .f32⟩ : BufTy).Contents (Elt F) → (⟨S16x1x1024x8x8x257, .f32⟩ : BufTy).Contents (Elt F)),
    unary main_arg4 main_v31 (broadcastInDim S8x8x1 ![0, 1] bcast_S8x8_S8x8x1_0_1 : (⟨S8x8, .f32⟩ : BufTy).Contents (Elt F) → (⟨S8x8x1, .f32⟩ : BufTy).Contents (Elt F)),
    unary main_v31 main_v32 (broadcastInDim S1x1x1x8x8x1 ![3, 4, 5] bcast_S8x8x1_S1x1x1x8x8x1_3_4_5 : (⟨S8x8x1, .f32⟩ : BufTy).Contents (Elt F) → (⟨S1x1x1x8x8x1, .f32⟩ : BufTy).Contents (Elt F)),
    unary main_v32 main_v33 (broadcastInDim S16x1x1024x8x8x257 ![0, 1, 2, 3, 4, 5] bcast_S1x1x1x8x8x1_S16x1x1024x8x8x257_0_1_2_3_4_5 : (⟨S1x1x1x8x8x1, .f32⟩ : BufTy).Contents (Elt F) → (⟨S16x1x1024x8x8x257, .f32⟩ : BufTy).Contents (Elt F)),
    binary main_v30 main_v33 main_v34 (Host.divf : (⟨S16x1x1024x8x8x257, .f32⟩ : BufTy).Contents (Elt F) → (⟨S16x1x1024x8x8x257, .f32⟩ : BufTy).Contents (Elt F) → (⟨S16x1x1024x8x8x257, .f32⟩ : BufTy).Contents (Elt F)),
    unary main_v34 main_v35 (Host.negf : (⟨S16x1x1024x8x8x257, .f32⟩ : BufTy).Contents (Elt F) → (⟨S16x1x1024x8x8x257, .f32⟩ : BufTy).Contents (Elt F)),
    unary main_v35 main_v36 (Host.exp : (⟨S16x1x1024x8x8x257, .f32⟩ : BufTy).Contents (Elt F) → (⟨S16x1x1024x8x8x257, .f32⟩ : BufTy).Contents (Elt F)),
    nullary main_cst_12 (constant S_ .f32 0x3F800000#32),
    unary main_cst_12 main_v37 (broadcastInDim S16x1x1024x8x8x257 ![] bcast_S_S16x1x1024x8x8x257 : (⟨S_, .f32⟩ : BufTy).Contents (Elt F) → (⟨S16x1x1024x8x8x257, .f32⟩ : BufTy).Contents (Elt F)),
    binary main_v37 main_v36 main_v38 (addf : (⟨S16x1x1024x8x8x257, .f32⟩ : BufTy).Contents (Elt F) → (⟨S16x1x1024x8x8x257, .f32⟩ : BufTy).Contents (Elt F) → (⟨S16x1x1024x8x8x257, .f32⟩ : BufTy).Contents (Elt F)),
    nullary main_cst_13 (constant S_ .f32 0x3F800000#32),
    unary main_cst_13 main_v39 (broadcastInDim S16x1x1024x8x8x257 ![] bcast_S_S16x1x1024x8x8x257 : (⟨S_, .f32⟩ : BufTy).Contents (Elt F) → (⟨S16x1x1024x8x8x257, .f32⟩ : BufTy).Contents (Elt F)),
    binary main_v39 main_v38 main_v40 (Host.divf : (⟨S16x1x1024x8x8x257, .f32⟩ : BufTy).Contents (Elt F) → (⟨S16x1x1024x8x8x257, .f32⟩ : BufTy).Contents (Elt F) → (⟨S16x1x1024x8x8x257, .f32⟩ : BufTy).Contents (Elt F)) ]

/-- The weight of every bin before it is normalised. -/
abbrev opsWeight : List (HloOp τ sig (Elt F)) :=
  [ unary main_v40 main_v41 ((extractStridedSlice S16x1x1024x8x8x256 ![0, 0, 0, 0, 0, 1] · slices_S16x1x1024x8x8x257_S16x1x1024x8x8x256_0_0_0_0_0_1) : (⟨S16x1x1024x8x8x257, .f32⟩ : BufTy).Contents (Elt F) → (⟨S16x1x1024x8x8x256, .f32⟩ : BufTy).Contents (Elt F)),
    unary main_v40 main_v42 ((extractStridedSlice S16x1x1024x8x8x256 ![0, 0, 0, 0, 0, 0] · slices_S16x1x1024x8x8x257_S16x1x1024x8x8x256_0_0_0_0_0_0) : (⟨S16x1x1024x8x8x257, .f32⟩ : BufTy).Contents (Elt F) → (⟨S16x1x1024x8x8x256, .f32⟩ : BufTy).Contents (Elt F)),
    binary main_v41 main_v42 main_v43 (subf : (⟨S16x1x1024x8x8x256, .f32⟩ : BufTy).Contents (Elt F) → (⟨S16x1x1024x8x8x256, .f32⟩ : BufTy).Contents (Elt F) → (⟨S16x1x1024x8x8x256, .f32⟩ : BufTy).Contents (Elt F)),
    nullary main_cst_14 (constant S_ .f32 0x3089705F#32),
    unary main_cst_14 main_v44 (broadcastInDim S16x1x1024x8x8x256 ![] bcast_S_S16x1x1024x8x8x256 : (⟨S_, .f32⟩ : BufTy).Contents (Elt F) → (⟨S16x1x1024x8x8x256, .f32⟩ : BufTy).Contents (Elt F)),
    binary main_v43 main_v44 main_v45 (addf : (⟨S16x1x1024x8x8x256, .f32⟩ : BufTy).Contents (Elt F) → (⟨S16x1x1024x8x8x256, .f32⟩ : BufTy).Contents (Elt F) → (⟨S16x1x1024x8x8x256, .f32⟩ : BufTy).Contents (Elt F)),
    unary main_v40 main_v46 ((extractStridedSlice S16x1x1024x8x8x1 ![0, 0, 0, 0, 0, 256] · slices_S16x1x1024x8x8x257_S16x1x1024x8x8x1_0_0_0_0_0_256) : (⟨S16x1x1024x8x8x257, .f32⟩ : BufTy).Contents (Elt F) → (⟨S16x1x1024x8x8x1, .f32⟩ : BufTy).Contents (Elt F)),
    unary main_v40 main_v47 ((extractStridedSlice S16x1x1024x8x8x1 ![0, 0, 0, 0, 0, 0] · slices_S16x1x1024x8x8x257_S16x1x1024x8x8x1_0_0_0_0_0_0) : (⟨S16x1x1024x8x8x257, .f32⟩ : BufTy).Contents (Elt F) → (⟨S16x1x1024x8x8x1, .f32⟩ : BufTy).Contents (Elt F)),
    binary main_v46 main_v47 main_v48 (subf : (⟨S16x1x1024x8x8x1, .f32⟩ : BufTy).Contents (Elt F) → (⟨S16x1x1024x8x8x1, .f32⟩ : BufTy).Contents (Elt F) → (⟨S16x1x1024x8x8x1, .f32⟩ : BufTy).Contents (Elt F)),
    nullary main_cst_15 (constant S_ .f32 0x3489705F#32),
    unary main_cst_15 main_v49 (broadcastInDim S16x1x1024x8x8x1 ![] bcast_S_S16x1x1024x8x8x1 : (⟨S_, .f32⟩ : BufTy).Contents (Elt F) → (⟨S16x1x1024x8x8x1, .f32⟩ : BufTy).Contents (Elt F)),
    binary main_v48 main_v49 main_v50 (addf : (⟨S16x1x1024x8x8x1, .f32⟩ : BufTy).Contents (Elt F) → (⟨S16x1x1024x8x8x1, .f32⟩ : BufTy).Contents (Elt F) → (⟨S16x1x1024x8x8x1, .f32⟩ : BufTy).Contents (Elt F)),
    unary main_v50 main_v51 (broadcastInDim S16x1x1024x8x8x256 ![0, 1, 2, 3, 4, 5] bcast_S16x1x1024x8x8x1_S16x1x1024x8x8x256_0_1_2_3_4_5 : (⟨S16x1x1024x8x8x1, .f32⟩ : BufTy).Contents (Elt F) → (⟨S16x1x1024x8x8x256, .f32⟩ : BufTy).Contents (Elt F)),
    binary main_v45 main_v51 main_v52 (Host.divf : (⟨S16x1x1024x8x8x256, .f32⟩ : BufTy).Contents (Elt F) → (⟨S16x1x1024x8x8x256, .f32⟩ : BufTy).Contents (Elt F) → (⟨S16x1x1024x8x8x256, .f32⟩ : BufTy).Contents (Elt F)),
    unary main_v52 main_v53 (Host.log : (⟨S16x1x1024x8x8x256, .f32⟩ : BufTy).Contents (Elt F) → (⟨S16x1x1024x8x8x256, .f32⟩ : BufTy).Contents (Elt F)),
    binary main_v53 main_arg6 main_v54 (addf : (⟨S16x1x1024x8x8x256, .f32⟩ : BufTy).Contents (Elt F) → (⟨S16x1x1024x8x8x256, .f32⟩ : BufTy).Contents (Elt F) → (⟨S16x1x1024x8x8x256, .f32⟩ : BufTy).Contents (Elt F)),
    nullary main_cst_16 (constant S_ .f32 0x3F800000#32),
    unary main_cst_16 main_v55 (broadcastInDim S16x1x1024x8x8x256 ![] bcast_S_S16x1x1024x8x8x256 : (⟨S_, .f32⟩ : BufTy).Contents (Elt F) → (⟨S16x1x1024x8x8x256, .f32⟩ : BufTy).Contents (Elt F)),
    binary main_v54 main_v55 main_v56 (Host.divf : (⟨S16x1x1024x8x8x256, .f32⟩ : BufTy).Contents (Elt F) → (⟨S16x1x1024x8x8x256, .f32⟩ : BufTy).Contents (Elt F) → (⟨S16x1x1024x8x8x256, .f32⟩ : BufTy).Contents (Elt F)),
    unary main_v56 main_v57 (Host.exp : (⟨S16x1x1024x8x8x256, .f32⟩ : BufTy).Contents (Elt F) → (⟨S16x1x1024x8x8x256, .f32⟩ : BufTy).Contents (Elt F)) ]

/-- The normalised weighted sum of the edges. -/
abbrev opsSum : List (HloOp τ sig (Elt F)) :=
  [ nullary main_cst_17 (constant S_ .f32 0x00000000#32),
    binary main_v57 main_cst_17 main_v58 ((fun x v => Host.reduceAdd x v reducesTo_S16x1x1024x8x8x256_S16x1x1024x8x8_d5 h_S_) : (⟨S16x1x1024x8x8x256, .f32⟩ : BufTy).Contents (Elt F) → (⟨S_, .f32⟩ : BufTy).Contents (Elt F) → (⟨S16x1x1024x8x8, .f32⟩ : BufTy).Contents (Elt F)),
    unary main_v58 main_v59 (broadcastInDim S16x1x1024x8x8x1 ![0, 1, 2, 3, 4] bcast_S16x1x1024x8x8_S16x1x1024x8x8x1_0_1_2_3_4 : (⟨S16x1x1024x8x8, .f32⟩ : BufTy).Contents (Elt F) → (⟨S16x1x1024x8x8x1, .f32⟩ : BufTy).Contents (Elt F)),
    unary main_v59 main_v60 (broadcastInDim S16x1x1024x8x8x256 ![0, 1, 2, 3, 4, 5] bcast_S16x1x1024x8x8x1_S16x1x1024x8x8x256_0_1_2_3_4_5 : (⟨S16x1x1024x8x8x1, .f32⟩ : BufTy).Contents (Elt F) → (⟨S16x1x1024x8x8x256, .f32⟩ : BufTy).Contents (Elt F)),
    binary main_v57 main_v60 main_v61 (Host.divf : (⟨S16x1x1024x8x8x256, .f32⟩ : BufTy).Contents (Elt F) → (⟨S16x1x1024x8x8x256, .f32⟩ : BufTy).Contents (Elt F) → (⟨S16x1x1024x8x8x256, .f32⟩ : BufTy).Contents (Elt F)),
    unary main_v24 main_v62 ((extractStridedSlice S8x8x256 ![0, 0, 0] · slices_S8x8x257_S8x8x256_0_0_0) : (⟨S8x8x257, .f32⟩ : BufTy).Contents (Elt F) → (⟨S8x8x256, .f32⟩ : BufTy).Contents (Elt F)),
    unary main_v62 main_v63 (broadcastInDim S1x1x1x8x8x256 ![3, 4, 5] bcast_S8x8x256_S1x1x1x8x8x256_3_4_5 : (⟨S8x8x256, .f32⟩ : BufTy).Contents (Elt F) → (⟨S1x1x1x8x8x256, .f32⟩ : BufTy).Contents (Elt F)),
    unary main_v63 main_v64 (broadcastInDim S16x1x1024x8x8x256 ![0, 1, 2, 3, 4, 5] bcast_S1x1x1x8x8x256_S16x1x1024x8x8x256_0_1_2_3_4_5 : (⟨S1x1x1x8x8x256, .f32⟩ : BufTy).Contents (Elt F) → (⟨S16x1x1024x8x8x256, .f32⟩ : BufTy).Contents (Elt F)),
    binary main_v61 main_v64 main_v65 (mulf : (⟨S16x1x1024x8x8x256, .f32⟩ : BufTy).Contents (Elt F) → (⟨S16x1x1024x8x8x256, .f32⟩ : BufTy).Contents (Elt F) → (⟨S16x1x1024x8x8x256, .f32⟩ : BufTy).Contents (Elt F)),
    nullary main_cst_18 (constant S_ .f32 0x00000000#32),
    binary main_v65 main_cst_18 main_v66 ((fun x v => Host.reduceAdd x v reducesTo_S16x1x1024x8x8x256_S16x1x1024x8x8_d5 h_S_) : (⟨S16x1x1024x8x8x256, .f32⟩ : BufTy).Contents (Elt F) → (⟨S_, .f32⟩ : BufTy).Contents (Elt F) → (⟨S16x1x1024x8x8, .f32⟩ : BufTy).Contents (Elt F)) ]

/-- The selected row once more. -/
abbrev opsRowAgain : List (HloOp τ sig (Elt F)) :=
  [ nullary main_c_19 (constantI S_ 32 0#32),
    binary main_arg7 main_c_19 main_v67 (cmpi .slt : (⟨S_, .i32⟩ : BufTy).Contents (Elt F) → (⟨S_, .i32⟩ : BufTy).Contents (Elt F) → (⟨S_, .i1⟩ : BufTy).Contents (Elt F)),
    nullary main_c_20 (constantI S_ 32 3#32),
    binary main_arg7 main_c_20 main_v68 (addi : (⟨S_, .i32⟩ : BufTy).Contents (Elt F) → (⟨S_, .i32⟩ : BufTy).Contents (Elt F) → (⟨S_, .i32⟩ : BufTy).Contents (Elt F)),
    ternary main_v67 main_v68 main_arg7 main_v69 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_21 (constantI S_ 32 0#32),
    nullary main_c_22 (constantI S_ 32 0#32),
    binary main_c_21 main_c_22 main_v70 (cmpi .slt : (⟨S_, .i32⟩ : BufTy).Contents (Elt F) → (⟨S_, .i32⟩ : BufTy).Contents (Elt F) → (⟨S_, .i1⟩ : BufTy).Contents (Elt F)),
    nullary main_c_23 (constantI S_ 32 0#32),
    nullary main_c_24 (constantI S_ 32 8#32),
    binary main_c_23 main_c_24 main_v71 (addi : (⟨S_, .i32⟩ : BufTy).Contents (Elt F) → (⟨S_, .i32⟩ : BufTy).Contents (Elt F) → (⟨S_, .i32⟩ : BufTy).Contents (Elt F)),
    nullary main_c_25 (constantI S_ 32 0#32),
    ternary main_v70 main_v71 main_c_25 main_v72 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_26 (constantI S_ 32 0#32),
    nullary main_c_27 (constantI S_ 32 0#32),
    binary main_c_26 main_c_27 main_v73 (cmpi .slt : (⟨S_, .i32⟩ : BufTy).Contents (Elt F) → (⟨S_, .i32⟩ : BufTy).Contents (Elt F) → (⟨S_, .i1⟩ : BufTy).Contents (Elt F)),
    nullary main_c_28 (constantI S_ 32 0#32),
    nullary main_c_29 (constantI S_ 32 8#32),
    binary main_c_28 main_c_29 main_v74 (addi : (⟨S_, .i32⟩ : BufTy).Contents (Elt F) → (⟨S_, .i32⟩ : BufTy).Contents (Elt F) → (⟨S_, .i32⟩ : BufTy).Contents (Elt F)),
    nullary main_c_30 (constantI S_ 32 0#32),
    ternary main_v73 main_v74 main_c_30 main_v75 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg1 ![main_v69, main_v72, main_v75] ⟨S_, .i32⟩ main_v76 ((fun x i => Host.dynamicSlice S1x8x8 x (fun k => (i k (Shape.Idx.first h_S_)).toInt) sliceFits_S3x8x8_S1x8x8) : (⟨S3x8x8, .f32⟩ : BufTy).Contents (Elt F) → (Fin 3 → (⟨S_, .i32⟩ : BufTy).Contents (Elt F)) → (⟨S1x8x8, .f32⟩ : BufTy).Contents (Elt F)),
    reshape main_v76 main_v77 (rfl : (.f32 : EltTy) = .f32) shapeCasts_S1x8x8_S8x8 ]

/-- The rescaling of that sum, and the third result. -/
abbrev opsOut : List (HloOp τ sig (Elt F)) :=
  [ unary main_v77 main_v78 (broadcastInDim S1x1x1x8x8 ![3, 4] bcast_S8x8_S1x1x1x8x8_3_4 : (⟨S8x8, .f32⟩ : BufTy).Contents (Elt F) → (⟨S1x1x1x8x8, .f32⟩ : BufTy).Contents (Elt F)),
    unary main_v78 main_v79 (broadcastInDim S16x1x1024x8x8 ![0, 1, 2, 3, 4] bcast_S1x1x1x8x8_S16x1x1024x8x8_0_1_2_3_4 : (⟨S1x1x1x8x8, .f32⟩ : BufTy).Contents (Elt F) → (⟨S16x1x1024x8x8, .f32⟩ : BufTy).Contents (Elt F)),
    binary main_v66 main_v79 main_v80 (mulf : (⟨S16x1x1024x8x8, .f32⟩ : BufTy).Contents (Elt F) → (⟨S16x1x1024x8x8, .f32⟩ : BufTy).Contents (Elt F) → (⟨S16x1x1024x8x8, .f32⟩ : BufTy).Contents (Elt F)),
    nullary main_cst_31 (constant S_ .f32 0x00000000#32) ]

/-- All the operations, stage after stage. -/
abbrev opsAll : List (HloOp τ sig (Elt F)) :=
  opsRow ++ (opsCell ++ (opsMean ++ (opsGrid ++ (opsCdf ++ (opsWeight ++ (opsSum ++ (opsRowAgain ++ opsOut)))))))

set_option maxRecDepth 8192 in
set_option maxHeartbeats 4000000 in
/-- The program is the stages run in order. -/
theorem main_stages (c : Dev nD) : main (F := F) c = seq opsAll := rfl

/-- The program scopes no buffer. -/
theorem no_scoped_refs : (Finset.univ.filter fun b : Ref sig .tc => b.isScoped) = ∅ := by decide

/-- The program scopes no semaphore. -/
theorem no_scoped_sems : (Finset.univ.filter fun sm : SemLoc sig => sm.isScoped .tc) = ∅ := by decide

set_option maxRecDepth 8192 in
/-- Every operation reads and writes arrays of the program. -/
theorem ops_within : (opsAll : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., binary_bufs_sub .., reshape_bufs_sub .., unary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., binary_bufs_sub .., nullary_bufs_sub .., binary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., binary_bufs_sub .., nullary_bufs_sub ..⟩

/-- Running one list of operations after another. -/
theorem after_two (l k : List (HloOp τ sig (Elt F))) (V : Valuation τ sig (Elt F)) :
    after (l ++ k) V = after k (after l V) := by
  induction l generalizing V with
  | nil => rfl
  | cons op l ih => exact ih _

set_option maxRecDepth 8192 in
set_option maxHeartbeats 4000000 in
/-- The run: every array ends at what the stages leave of the launch contents, and every counter ends at zero. -/
theorem run_stages (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = after opsAll (launchContents m d) (Proc.devRef .tc b))
        ∧ r.2.sem = fun _ => 0 :=
  (θ_run defs _ _).mono (fun r h => ⟨h, Idealize.ShloMosaic.sem_eq_zero_of_no_sems (by decide) r.2⟩)
    (run_seq no_scoped_refs no_scoped_sems defs main (fun _ => opsAll) main_stages (fun _ => ops_within) m ρ)

end Cert.ReferenceIdeal.Stages

end
-- ==== Proof.RefRead.lean ====
/-
  What each stage of the reference program leaves, read at one index.
-/
module

public import proofs.«01_k».proof.Proof.RefStages

@[expose] public section

noncomputable section

namespace Cert.ReferenceIdeal.Stages

open Cert.ReferenceIdeal Cert.ReferenceIdeal.Gen Idealize.ShloMosaic Idealize.ShloMosaic.TcCoe Idealize.SL.Sem Idealize.ShloMosaic.StableHlo

/-- The contents of every array. -/
abbrev Val := Valuation τ sig (Elt Ideal)

/-- The selected row of the resizing table, read at a block: the table's element. -/
theorem row_slice (x : FVec Ideal S3x8x8 .f32) (i : Fin 3) (st : Fin 3 → Int) (h0 : st 0 = i.val) (h1 : st 1 = 0) (h2 : st 2 = 0)
    (p q : Fin 8) : (Host.dynamicSlice S1x8x8 x st sliceFits_S3x8x8_S1x8x8) (ix3 0 p q) = x (ix3 i p q) := by
  unfold Host.dynamicSlice extractStridedSlice
  refine congrArg x (funext fun a => Fin.ext ?_)
  match a with
  | ⟨0, _⟩ =>
    show (min (max (st 0) 0) _).toNat + 0 = i.val
    rw [h0]; fin_cases i <;> rfl
  | ⟨1, _⟩ =>
    show (min (max (st 1) 0) _).toNat + p.val = p.val
    rw [h1]; exact Nat.zero_add _
  | ⟨2, _⟩ =>
    show (min (max (st 2) 0) _).toNat + q.val = q.val
    rw [h2]; exact Nat.zero_add _

/-- The first row stage leaves row `i` of the table. -/
theorem row_at (W : Val) (i : Fin 3) (hi : (W (Proc.devRef .tc main_arg7) : IVec S_ 32) = fun _ => BitVec.ofNat 32 i.val) (p q : Fin 8) :
    (after opsRow W (Proc.devRef .tc main_v10) : FVec Ideal S8x8 .f32) (ix2 p q)
      = (W (Proc.devRef .tc main_arg1) : FVec Ideal S3x8x8 .f32) (ix3 i p q) := by
  after_reads_simp
  have e : ∀ y : FVec Ideal S1x8x8 .f32, shapeCast S8x8 y shapeCasts_S1x8x8_S8x8 (ix2 p q) = y (ix3 0 p q) := by
    intro y; pointwise
  refine (e _).trans (row_slice _ i _ ?_ ?_ ?_ p q)
  · have e0 : (upto opsRow W 21 (Proc.devRef .tc main_v2) : IVec S_ 32) (Shape.Idx.first h_S_) = BitVec.ofNat 32 i.val := by
      after_reads_simp
      rw [hi]
      fin_cases i <;> rfl
    refine (congrArg BitVec.toInt e0).trans ?_
    fin_cases i <;> rfl
  · have e0 : (upto opsRow W 21 (Proc.devRef .tc main_v5) : IVec S_ 32) (Shape.Idx.first h_S_) = 0#32 := by
      after_reads_simp
      rfl
    exact congrArg BitVec.toInt e0
  · have e0 : (upto opsRow W 21 (Proc.devRef .tc main_v8) : IVec S_ 32) (Shape.Idx.first h_S_) = 0#32 := by
      after_reads_simp
      rfl
    exact congrArg BitVec.toInt e0

/-- The second row stage leaves the same row. -/
theorem row_again_at (W : Val) (i : Fin 3) (hi : (W (Proc.devRef .tc main_arg7) : IVec S_ 32) = fun _ => BitVec.ofNat 32 i.val) (p q : Fin 8) :
    (after opsRowAgain W (Proc.devRef .tc main_v77) : FVec Ideal S8x8 .f32) (ix2 p q)
      = (W (Proc.devRef .tc main_arg1) : FVec Ideal S3x8x8 .f32) (ix3 i p q) := by
  after_reads_simp
  have e : ∀ y : FVec Ideal S1x8x8 .f32, shapeCast S8x8 y shapeCasts_S1x8x8_S8x8 (ix2 p q) = y (ix3 0 p q) := by
    intro y; pointwise
  refine (e _).trans (row_slice _ i _ ?_ ?_ ?_ p q)
  · have e0 : (upto opsRowAgain W 21 (Proc.devRef .tc main_v69) : IVec S_ 32) (Shape.Idx.first h_S_) = BitVec.ofNat 32 i.val := by
      after_reads_simp
      rw [hi]
      fin_cases i <;> rfl
    refine (congrArg BitVec.toInt e0).trans ?_
    fin_cases i <;> rfl
  · have e0 : (upto opsRowAgain W 21 (Proc.devRef .tc main_v72) : IVec S_ 32) (Shape.Idx.first h_S_) = 0#32 := by
      after_reads_simp
      rfl
    exact congrArg BitVec.toInt e0
  · have e0 : (upto opsRowAgain W 21 (Proc.devRef .tc main_v75) : IVec S_ 32) (Shape.Idx.first h_S_) = 0#32 := by
      after_reads_simp
      rfl
    exact congrArg BitVec.toInt e0

/-- A sum along the last axis. -/
theorem lane_sum (x : S16x1x1024x8x8x256.Idx → EReal) (a : Fin 16) (n : Fin 1024) (p q : Fin 8) :
    Ideal.hostReduceAdd reducesTo_S16x1x1024x8x8x256_S16x1x1024x8x8_d5 x 0 (ix5 a 0 n p q)
      = ∑ k : Fin 256, x (ix6 a 0 n p q k) := by
  unfold Ideal.hostReduceAdd
  rw [zero_add]
  refine Finset.sum_filter_eq_sum_of_fiber _ (fun k : Fin 256 => (ix6 a 0 n p q k : S16x1x1024x8x8x256.Idx))
    (fun _ _ e => congrFun e 5) (fun i => ?_) x
  constructor
  · intro e
    refine ⟨i 5, ?_⟩
    funext b; apply Fin.ext
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

variable (W : Val) (a : Fin 16) (n : Fin 1024) (p q : Fin 8)

/-- The cell stage leaves the input divided by the row. -/
theorem cell_at (x : Fin 16 → Fin 1024 → Fin 8 → Fin 8 → EReal) (r : Fin 8 → Fin 8 → EReal)
    (hx : ∀ a n p q, (W (Proc.devRef .tc main_arg0) : FVec Ideal S16x1x1024x8x8 .f32) (ix5 a 0 n p q) = x a n p q)
    (hr : ∀ p q, (W (Proc.devRef .tc main_v10) : FVec Ideal S8x8 .f32) (ix2 p q) = r p q) :
    (after opsCell W (Proc.devRef .tc main_v13) : FVec Ideal S16x1x1024x8x8 .f32) (ix5 a 0 n p q) = Ideal.div (x a n p q) (r p q) := by
  after_reads_at
  rw [hx, hr]

/-- The mean stage leaves the mean of the absolute values over all the rows. -/
theorem mean_at (y : Fin 16 → Fin 1024 → Fin 8 → Fin 8 → EReal)
    (hy : ∀ a n p q, (W (Proc.devRef .tc main_v13) : FVec Ideal S16x1x1024x8x8 .f32) (ix5 a 0 n p q) = y a n p q) :
    (after opsMean W (Proc.devRef .tc main_v18) : FVec Ideal S8x8 .f32) (ix2 p q)
      = Ideal.div (∑ x : Fin 16384, FloatOps.absf (F := Ideal) (φ := .f32) (y ⟨x.val / 1024, by omega⟩ ⟨x.val % 1024, by omega⟩ p q))
          (Ideal.ofBits .f32 0x46800000#32) := by
  after_reads_at
  simp only [hy]

/-- The grid stage leaves the bin edges. -/
theorem grid_at (gb : Fin 8 → Fin 8 → Fin 257 → EReal) (al be : Fin 8 → Fin 8 → EReal)
    (hg : ∀ p q k, (W (Proc.devRef .tc main_arg5) : FVec Ideal S8x8x257 .f32) (ix3 p q k) = gb p q k)
    (ha : ∀ p q, (W (Proc.devRef .tc main_arg2) : FVec Ideal S8x8 .f32) (ix2 p q) = al p q)
    (hb : ∀ p q, (W (Proc.devRef .tc main_arg3) : FVec Ideal S8x8 .f32) (ix2 p q) = be p q) (k : Fin 257) :
    (after opsGrid W (Proc.devRef .tc main_v24) : FVec Ideal S8x8x257 .f32) (ix3 p q k) = gb p q k * al p q + be p q := by
  after_reads_at
  rw [hg, ha, hb]

/-- The logistic stage leaves the logistic function at every edge. -/
theorem cdf_at (y : Fin 16 → Fin 1024 → Fin 8 → Fin 8 → EReal) (g : Fin 8 → Fin 8 → Fin 257 → EReal) (dv : Fin 8 → Fin 8 → EReal)
    (hy : ∀ a n p q, (W (Proc.devRef .tc main_v13) : FVec Ideal S16x1x1024x8x8 .f32) (ix5 a 0 n p q) = y a n p q)
    (hg : ∀ p q k, (W (Proc.devRef .tc main_v24) : FVec Ideal S8x8x257 .f32) (ix3 p q k) = g p q k)
    (hd : ∀ p q, (W (Proc.devRef .tc main_arg4) : FVec Ideal S8x8 .f32) (ix2 p q) = dv p q) (k : Fin 257) :
    (after opsCdf W (Proc.devRef .tc main_v40) : FVec Ideal S16x1x1024x8x8x257 .f32) (ix6 a 0 n p q k)
      = Ideal.div 1 (1 + Ideal.exp (-Ideal.div (-(y a n p q - g p q k)) (dv p q))) := by
  after_reads_at
  rw [hy, hg, hd]

/-- The weight stage leaves the weight of every bin. -/
theorem weight_at (f : Fin 16 → Fin 1024 → Fin 8 → Fin 8 → Fin 257 → EReal) (u : Fin 16 → Fin 1024 → Fin 8 → Fin 8 → Fin 256 → EReal)
    (hf : ∀ a n p q k, (W (Proc.devRef .tc main_v40) : FVec Ideal S16x1x1024x8x8x257 .f32) (ix6 a 0 n p q k) = f a n p q k)
    (hu : ∀ a n p q k, (W (Proc.devRef .tc main_arg6) : FVec Ideal S16x1x1024x8x8x256 .f32) (ix6 a 0 n p q k) = u a n p q k) (k : Fin 256) :
    (after opsWeight W (Proc.devRef .tc main_v57) : FVec Ideal S16x1x1024x8x8x256 .f32) (ix6 a 0 n p q k)
      = Ideal.exp (Ideal.div (Ideal.log (Ideal.div
            (f a n p q ⟨1 + k.val, by omega⟩ - f a n p q ⟨k.val, by omega⟩ + Ideal.ofBits .f32 0x3089705F#32)
            (f a n p q 256 - f a n p q 0 + Ideal.ofBits .f32 0x3489705F#32)) + u a n p q k) 1) := by
  after_reads_at
  simp only [hf, hu]

/-- The sum stage leaves the weighted sum of the edges, every weight divided by their sum. -/
theorem sum_at (z : Fin 16 → Fin 1024 → Fin 8 → Fin 8 → Fin 256 → EReal) (g : Fin 8 → Fin 8 → Fin 257 → EReal)
    (hz : ∀ a n p q k, (W (Proc.devRef .tc main_v57) : FVec Ideal S16x1x1024x8x8x256 .f32) (ix6 a 0 n p q k) = z a n p q k)
    (hg : ∀ p q k, (W (Proc.devRef .tc main_v24) : FVec Ideal S8x8x257 .f32) (ix3 p q k) = g p q k) :
    (after opsSum W (Proc.devRef .tc main_v66) : FVec Ideal S16x1x1024x8x8 .f32) (ix5 a 0 n p q)
      = ∑ k : Fin 256, Ideal.div (z a n p q k) (∑ l : Fin 256, z a n p q l) * g p q ⟨k.val, by omega⟩ := by
  after_reads_at
  rw [lane_sum]
  refine Finset.sum_congr rfl fun k _ => ?_
  pointwise
  rw [lane_sum]
  simp only [hz, hg]

/-- The last stage leaves that sum times the row. -/
theorem out_at (s : Fin 16 → Fin 1024 → Fin 8 → Fin 8 → EReal) (r : Fin 8 → Fin 8 → EReal)
    (hs : ∀ a n p q, (W (Proc.devRef .tc main_v66) : FVec Ideal S16x1x1024x8x8 .f32) (ix5 a 0 n p q) = s a n p q)
    (hr : ∀ p q, (W (Proc.devRef .tc main_v77) : FVec Ideal S8x8 .f32) (ix2 p q) = r p q) :
    (after opsOut W (Proc.devRef .tc main_v80) : FVec Ideal S16x1x1024x8x8 .f32) (ix5 a 0 n p q) = s a n p q * r p q := by
  after_reads_at
  rw [hs, hr]

/-- The third result is the constant zero. -/
theorem third : after opsOut W (Proc.devRef .tc main_cst_31) = (constant S_ .f32 0x00000000#32 : FVec Ideal S_ .f32) := by
  after_reads_simp

end Cert.ReferenceIdeal.Stages

end
-- ==== Proof.RefRun.lean ====
/-
  The reference program's results, read at one index in terms of its arguments.
-/
module

public import proofs.«01_k».proof.Proof.RefRead
public import Idealize.ShloMosaic.Lib.StableHlo.RunRead

@[expose] public section

noncomputable section

namespace Cert.ReferenceIdeal.Stages

open Cert.ReferenceIdeal Cert.ReferenceIdeal.Gen Idealize.ShloMosaic Idealize.ShloMosaic.TcCoe Idealize.SL.Sem Idealize.ShloMosaic.StableHlo

/-- What the operations of the stage `opsRow` write, in order. -/
abbrev putRow : List (Ref sig .tc) :=
  [main_c, main_v0, main_c_0, main_v1, main_v2, main_c_1, main_c_2, main_v3, main_c_3, main_c_4, main_v4, main_c_5, main_v5, main_c_6, main_c_7, main_v6, main_c_8, main_c_9, main_v7, main_c_10, main_v8, main_v9, main_v10]

/-- That stage leaves every other buffer alone. -/
theorem keptRow (W : Val) (b : Ref sig .tc) (hb : b ∉ putRow) : after opsRow W (Proc.devRef .tc b) = W (Proc.devRef .tc b) :=
  after_unwritten putRow rfl hb W

/-- What the operations of the stage `opsCell` write, in order. -/
abbrev putCell : List (Ref sig .tc) :=
  [main_v11, main_v12, main_v13]

/-- That stage leaves every other buffer alone. -/
theorem keptCell (W : Val) (b : Ref sig .tc) (hb : b ∉ putCell) : after opsCell W (Proc.devRef .tc b) = W (Proc.devRef .tc b) :=
  after_unwritten putCell rfl hb W

/-- What the operations of the stage `opsMean` write, in order. -/
abbrev putMean : List (Ref sig .tc) :=
  [main_v14, main_v15, main_cst, main_v16, main_cst_11, main_v17, main_v18]

/-- That stage leaves every other buffer alone. -/
theorem keptMean (W : Val) (b : Ref sig .tc) (hb : b ∉ putMean) : after opsMean W (Proc.devRef .tc b) = W (Proc.devRef .tc b) :=
  after_unwritten putMean rfl hb W

/-- What the operations of the stage `opsGrid` write, in order. -/
abbrev putGrid : List (Ref sig .tc) :=
  [main_v19, main_v20, main_v21, main_v22, main_v23, main_v24]

/-- That stage leaves every other buffer alone. -/
theorem keptGrid (W : Val) (b : Ref sig .tc) (hb : b ∉ putGrid) : after opsGrid W (Proc.devRef .tc b) = W (Proc.devRef .tc b) :=
  after_unwritten putGrid rfl hb W

/-- What the operations of the stage `opsCdf` write, in order. -/
abbrev putCdf : List (Ref sig .tc) :=
  [main_v25, main_v26, main_v27, main_v28, main_v29, main_v30, main_v31, main_v32, main_v33, main_v34, main_v35, main_v36, main_cst_12, main_v37, main_v38, main_cst_13, main_v39, main_v40]

/-- That stage leaves every other buffer alone. -/
theorem keptCdf (W : Val) (b : Ref sig .tc) (hb : b ∉ putCdf) : after opsCdf W (Proc.devRef .tc b) = W (Proc.devRef .tc b) :=
  after_unwritten putCdf rfl hb W

/-- What the operations of the stage `opsWeight` write, in order. -/
abbrev putWeight : List (Ref sig .tc) :=
  [main_v41, main_v42, main_v43, main_cst_14, main_v44, main_v45, main_v46, main_v47, main_v48, main_cst_15, main_v49, main_v50, main_v51, main_v52, main_v53, main_v54, main_cst_16, main_v55, main_v56, main_v57]

/-- That stage leaves every other buffer alone. -/
theorem keptWeight (W : Val) (b : Ref sig .tc) (hb : b ∉ putWeight) : after opsWeight W (Proc.devRef .tc b) = W (Proc.devRef .tc b) :=
  after_unwritten putWeight rfl hb W

/-- What the operations of the stage `opsSum` write, in order. -/
abbrev putSum : List (Ref sig .tc) :=
  [main_cst_17, main_v58, main_v59, main_v60, main_v61, main_v62, main_v63, main_v64, main_v65, main_cst_18, main_v66]

/-- That stage leaves every other buffer alone. -/
theorem keptSum (W : Val) (b : Ref sig .tc) (hb : b ∉ putSum) : after opsSum W (Proc.devRef .tc b) = W (Proc.devRef .tc b) :=
  after_unwritten putSum rfl hb W

/-- What the operations of the stage `opsRowAgain` write, in order. -/
abbrev putRowAgain : List (Ref sig .tc) :=
  [main_c_19, main_v67, main_c_20, main_v68, main_v69, main_c_21, main_c_22, main_v70, main_c_23, main_c_24, main_v71, main_c_25, main_v72, main_c_26, main_c_27, main_v73, main_c_28, main_c_29, main_v74, main_c_30, main_v75, main_v76, main_v77]

/-- That stage leaves every other buffer alone. -/
theorem keptRowAgain (W : Val) (b : Ref sig .tc) (hb : b ∉ putRowAgain) : after opsRowAgain W (Proc.devRef .tc b) = W (Proc.devRef .tc b) :=
  after_unwritten putRowAgain rfl hb W

/-- What the operations of the stage `opsOut` write, in order. -/
abbrev putOut : List (Ref sig .tc) :=
  [main_v78, main_v79, main_v80, main_cst_31]

/-- That stage leaves every other buffer alone. -/
theorem keptOut (W : Val) (b : Ref sig .tc) (hb : b ∉ putOut) : after opsOut W (Proc.devRef .tc b) = W (Proc.devRef .tc b) :=
  after_unwritten putOut rfl hb W

/-- No stage writes an argument. -/
theorem kept_all (W : Val) (b : Ref sig .tc)
    (hb : b ∉ putRow ++ (putCell ++ (putMean ++ (putGrid ++ (putCdf ++ (putWeight ++ (putSum ++ (putRowAgain ++ putOut)))))))) :
    after opsAll W (Proc.devRef .tc b) = W (Proc.devRef .tc b) := by
  simp only [List.mem_append, not_or] at hb
  obtain ⟨h1, h2, h3, h4, h5, h6, h7, h8, h9⟩ := hb
  unfold opsAll
  simp only [after_two]
  rw [keptOut _ b h9, keptRowAgain _ b h8, keptSum _ b h7, keptWeight _ b h6, keptCdf _ b h5, keptGrid _ b h4, keptMean _ b h3,
    keptCell _ b h2, keptRow _ b h1]

/-- The distribution function at a bin edge `g`, of a scaled input and a deviation. -/
def cdf (y g dv : EReal) : EReal := Ideal.div 1 (1 + Ideal.exp (-Ideal.div (-(y - g)) dv))

/-- A bin's unnormalised weight, of the distribution function at all edges and the noise of the bin. -/
def weight (f : Fin 257 → EReal) (u : Fin 256 → EReal) (k : Fin 256) : EReal :=
  Ideal.exp (Ideal.div (Ideal.log (Ideal.div (f ⟨1 + k.val, by omega⟩ - f ⟨k.val, by omega⟩ + Ideal.ofBits .f32 0x3089705F#32)
    (f 256 - f 0 + Ideal.ofBits .f32 0x3489705F#32)) + u k) 1)

/-- One output element, of its input, scale, edges, deviation and noise. -/
def out (x r dv : EReal) (g : Fin 257 → EReal) (u : Fin 256 → EReal) : EReal :=
  (∑ k : Fin 256, Ideal.div (weight (fun k => cdf (Ideal.div x r) (g k) dv) u k)
    (∑ l : Fin 256, weight (fun k => cdf (Ideal.div x r) (g k) dv) u l) * g ⟨k.val, by omega⟩) * r

section
variable (W : Val) (x : Fin 16 → Fin 1024 → Fin 8 → Fin 8 → EReal) (rz : Fin 3 → Fin 8 → Fin 8 → EReal) (al be dv : Fin 8 → Fin 8 → EReal)
    (gb : Fin 8 → Fin 8 → Fin 257 → EReal) (u : Fin 16 → Fin 1024 → Fin 8 → Fin 8 → Fin 256 → EReal) (i : Fin 3)
    (hx : ∀ a n p q, (W (Proc.devRef .tc main_arg0) : FVec Ideal S16x1x1024x8x8 .f32) (ix5 a 0 n p q) = x a n p q)
    (hr : ∀ k p q, (W (Proc.devRef .tc main_arg1) : FVec Ideal S3x8x8 .f32) (ix3 k p q) = rz k p q)
    (ha : ∀ p q, (W (Proc.devRef .tc main_arg2) : FVec Ideal S8x8 .f32) (ix2 p q) = al p q)
    (hb : ∀ p q, (W (Proc.devRef .tc main_arg3) : FVec Ideal S8x8 .f32) (ix2 p q) = be p q)
    (hd : ∀ p q, (W (Proc.devRef .tc main_arg4) : FVec Ideal S8x8 .f32) (ix2 p q) = dv p q)
    (hg : ∀ p q k, (W (Proc.devRef .tc main_arg5) : FVec Ideal S8x8x257 .f32) (ix3 p q k) = gb p q k)
    (hu : ∀ a n p q k, (W (Proc.devRef .tc main_arg6) : FVec Ideal S16x1x1024x8x8x256 .f32) (ix6 a 0 n p q k) = u a n p q k)
    (hi : (W (Proc.devRef .tc main_arg7) : IVec S_ 32) = fun _ => BitVec.ofNat 32 i.val)

include hx hr hi in
/-- After the first two stages: the scaled input. -/
theorem scaled_at (a : Fin 16) (n : Fin 1024) (p q : Fin 8) :
    (after opsCell (after opsRow W) (Proc.devRef .tc main_v13) : FVec Ideal S16x1x1024x8x8 .f32) (ix5 a 0 n p q)
      = Ideal.div (x a n p q) (rz i p q) := by
  refine cell_at _ a n p q x (rz i) ?_ ?_
  · intro a n p q
    rw [keptRow _ main_arg0 (by decide)]
    exact hx a n p q
  · intro p q
    rw [row_at W i hi, hr]

include hx hr hi in
/-- The second result: the mean absolute value of the scaled input. -/
theorem second_at (p q : Fin 8) :
    (after opsAll W (Proc.devRef .tc main_v18) : FVec Ideal S8x8 .f32) (ix2 p q)
      = Ideal.div (∑ k : Fin 16384, FloatOps.absf (F := Ideal) (φ := .f32) (Ideal.div (x ⟨k.val / 1024, by omega⟩ ⟨k.val % 1024, by omega⟩ p q) (rz i p q)))
          (Ideal.ofBits .f32 0x46800000#32) := by
  unfold opsAll
  simp only [after_two]
  rw [keptOut _ main_v18 (by decide), keptRowAgain _ main_v18 (by decide), keptSum _ main_v18 (by decide), keptWeight _ main_v18 (by decide),
    keptCdf _ main_v18 (by decide), keptGrid _ main_v18 (by decide)]
  exact mean_at _ p q (fun a n p q => Ideal.div (x a n p q) (rz i p q)) (scaled_at W x rz i hx hr hi)

include hx hr ha hb hd hg hu hi in
/-- The first result. -/
theorem first_at (a : Fin 16) (n : Fin 1024) (p q : Fin 8) :
    (after opsAll W (Proc.devRef .tc main_v80) : FVec Ideal S16x1x1024x8x8 .f32) (ix5 a 0 n p q)
      = out (x a n p q) (rz i p q) (dv p q) (fun k => gb p q k * al p q + be p q) (u a n p q) := by
  unfold opsAll
  simp only [after_two]
  have sc := scaled_at W x rz i hx hr hi
  generalize e2 : after opsCell (after opsRow W) = W2 at sc ⊢
  have arg : ∀ b, b ∉ putRow ++ putCell → W2 (Proc.devRef .tc b) = W (Proc.devRef .tc b) := fun b h => by
    rw [List.mem_append, not_or] at h
    rw [← e2, keptCell _ b h.2, keptRow _ b h.1]
  have gr : ∀ p q k, (after opsGrid (after opsMean W2) (Proc.devRef .tc main_v24) : FVec Ideal S8x8x257 .f32) (ix3 p q k)
      = gb p q k * al p q + be p q := fun p q k => by
    refine grid_at _ p q gb al be ?_ ?_ ?_ k
    · rw [keptMean _ main_arg5 (by decide), arg main_arg5 (by decide)]; exact hg
    · rw [keptMean _ main_arg2 (by decide), arg main_arg2 (by decide)]; exact ha
    · rw [keptMean _ main_arg3 (by decide), arg main_arg3 (by decide)]; exact hb
  have sc' : ∀ a n p q, (after opsGrid (after opsMean W2) (Proc.devRef .tc main_v13) : FVec Ideal S16x1x1024x8x8 .f32) (ix5 a 0 n p q)
      = Ideal.div (x a n p q) (rz i p q) := fun a n p q => by
    rw [keptGrid _ main_v13 (by decide), keptMean _ main_v13 (by decide)]; exact sc a n p q
  have arg' : ∀ b, b ∉ putRow ++ putCell → b ∉ putMean ++ putGrid →
      after opsGrid (after opsMean W2) (Proc.devRef .tc b) = W (Proc.devRef .tc b) := fun b h h' => by
    rw [List.mem_append, not_or] at h'
    rw [keptGrid _ b h'.2, keptMean _ b h'.1, arg b h]
  generalize after opsGrid (after opsMean W2) = W4 at gr sc' arg' ⊢
  have cd : ∀ a n p q k, (after opsCdf W4 (Proc.devRef .tc main_v40) : FVec Ideal S16x1x1024x8x8x257 .f32) (ix6 a 0 n p q k)
      = cdf (Ideal.div (x a n p q) (rz i p q)) (gb p q k * al p q + be p q) (dv p q) := fun a n p q k => by
    refine cdf_at _ a n p q (fun a n p q => Ideal.div (x a n p q) (rz i p q)) (fun p q k => gb p q k * al p q + be p q) dv sc' gr ?_ k
    rw [arg' main_arg4 (by decide) (by decide)]; exact hd
  have we : ∀ a n p q k, (after opsWeight (after opsCdf W4) (Proc.devRef .tc main_v57) : FVec Ideal S16x1x1024x8x8x256 .f32) (ix6 a 0 n p q k)
      = weight (fun k => cdf (Ideal.div (x a n p q) (rz i p q)) (gb p q k * al p q + be p q) (dv p q)) (u a n p q) k := fun a n p q k => by
    refine weight_at _ a n p q _ u cd ?_ k
    rw [keptCdf _ main_arg6 (by decide), arg' main_arg6 (by decide) (by decide)]; exact hu
  have su : ∀ a n p q, (after opsSum (after opsWeight (after opsCdf W4)) (Proc.devRef .tc main_v66) : FVec Ideal S16x1x1024x8x8 .f32) (ix5 a 0 n p q)
      = ∑ k : Fin 256, Ideal.div (weight (fun k => cdf (Ideal.div (x a n p q) (rz i p q)) (gb p q k * al p q + be p q) (dv p q)) (u a n p q) k)
          (∑ l : Fin 256, weight (fun k => cdf (Ideal.div (x a n p q) (rz i p q)) (gb p q k * al p q + be p q) (dv p q)) (u a n p q) l)
          * (gb p q ⟨k.val, by omega⟩ * al p q + be p q) := fun a n p q => by
    refine sum_at _ a n p q (fun a n p q => weight (fun k => cdf (Ideal.div (x a n p q) (rz i p q)) (gb p q k * al p q + be p q) (dv p q)) (u a n p q))
      (fun p q k => gb p q k * al p q + be p q) we ?_
    rw [keptWeight _ main_v24 (by decide), keptCdf _ main_v24 (by decide)]; exact gr
  refine out_at _ a n p q (fun a n p q => ∑ k : Fin 256, Ideal.div (weight (fun k => cdf (Ideal.div (x a n p q) (rz i p q)) (gb p q k * al p q + be p q) (dv p q)) (u a n p q) k)
          (∑ l : Fin 256, weight (fun k => cdf (Ideal.div (x a n p q) (rz i p q)) (gb p q k * al p q + be p q) (dv p q)) (u a n p q) l)
          * (gb p q ⟨k.val, by omega⟩ * al p q + be p q)) (rz i) (fun a n p q => ?_) (fun p q => ?_)
  · rw [keptRowAgain _ main_v66 (by decide)]; exact su a n p q
  · rw [row_again_at _ i ?_, keptSum _ main_arg1 (by decide), keptWeight _ main_arg1 (by decide), keptCdf _ main_arg1 (by decide),
      arg' main_arg1 (by decide) (by decide), hr]
    rw [keptSum _ main_arg7 (by decide), keptWeight _ main_arg7 (by decide), keptCdf _ main_arg7 (by decide),
      arg' main_arg7 (by decide) (by decide)]
    exact hi

end

/-- The third result. -/
theorem third_eq (W : Val) : after opsAll W (Proc.devRef .tc main_cst_31) = (constant S_ .f32 0x00000000#32 : FVec Ideal S_ .f32) := by
  unfold opsAll
  simp only [after_two]
  exact third _

end Cert.ReferenceIdeal.Stages

end
-- ==== Proof.Pre.lean ====
/-
  What the precondition says, element by element.
-/
module

public import proofs.«01_k».proof.Proof.Gen.Pre_valid
public import Idealize.ShloMosaic.Lib.Pointwise

@[expose] public section

noncomputable section

namespace Cert.Pre_valid.Says

open Cert.Pre_valid Idealize.ShloMosaic

variable (x0 : FVec Ideal S16x1x1024x8x8 .f32) (x1 : FVec Ideal S3x8x8 .f32) (x2 x3 x4 : FVec Ideal S8x8 .f32)
  (x5 : FVec Ideal S8x8x257 .f32) (x6 : FVec Ideal S16x1x1024x8x8x256 .f32) (x7 : IVec S_ 32)

/-- The word of infinity. -/
theorem inf_word : Ideal.ofBits .f32 0x7F800000#32 = (⊤ : EReal) := by
  simp [Ideal.ofBits, Ideal.ieee]

/-- Two bits that are both one. -/
theorem both {a b : BitVec 1} (h : IntOp.andi a b = 1#1) : a = 1#1 ∧ b = 1#1 := by
  revert a b; decide

/-- A bit that is one says that its condition holds. -/
theorem holds_of {p : Prop} [Decidable p] (h : BitVec.ofBool (decide p) = 1#1) : p := by
  by_contra hp
  rw [decide_eq_false hp] at h
  exact absurd h (by decide)

/-- A number between zero and infinity is real. -/
theorem real_of_pos {y : EReal} (h0 : 0 < y) (h1 : y < ⊤) : ∃ r : ℝ, 0 < r ∧ y = r := by
  induction y with
  | bot => exact absurd h0 (by simp)
  | top => exact absurd h1 (lt_irrefl _)
  | coe r => exact ⟨r, EReal.coe_pos.1 h0, rfl⟩

/-- Likewise with zero included. -/
theorem real_of_nonneg {y : EReal} (h0 : 0 ≤ y) (h1 : y < ⊤) : ∃ r : ℝ, 0 ≤ r ∧ y = r := by
  induction y with
  | bot => exact absurd h0 (by simp)
  | top => exact absurd h1 (lt_irrefl _)
  | coe r => exact ⟨r, EReal.coe_nonneg.1 h0, rfl⟩

/-- A number of finite absolute value is real. -/
theorem real_of_abs {y : EReal} (h : FloatOps.absf (F := Ideal) (φ := .f32) y < (⊤ : EReal)) : ∃ r : ℝ, y = r := by
  have h' : max y (-y) < ⊤ := h
  induction y with
  | bot => exact absurd h' (by simp)
  | top => exact absurd h' (by simp)
  | coe r => exact ⟨r, rfl⟩

/-- The row number is one of the table's. -/
theorem row_of (h : (fn (F := Ideal) x0 x1 x2 x3 x4 x5 x6 x7).1 = fun _ => 1#1) :
    ∃ i : Fin 3, x7 = fun _ => BitVec.ofNat 32 i.val := by
  have e : (fn (F := Ideal) x0 x1 x2 x3 x4 x5 x6 x7).1 ix0 = 1#1 := congrFun h _
  revert e
  unfold fn fn_part1 fn_part2
  dsimp only
  pointwise []
  intro e
  obtain ⟨e1, e2⟩ := both e
  have h1 : (0#32).sle (x7 ix0) = true := by
    by_contra hn
    exact absurd e1 (by simp [IntOp.cmpi, hn])
  have h2 : (x7 ix0).slt 3#32 = true := by
    by_contra hn
    exact absurd e2 (by simp [IntOp.cmpi, hn])
  have h3 : (x7 ix0).toNat < 3 := by
    rw [BitVec.sle_iff_toInt_le] at h1
    rw [BitVec.slt_iff_toInt_lt] at h2
    rw [BitVec.toInt_eq_toNat_cond (x7 ix0)] at h1 h2
    have z : (0#32).toInt = 0 := by decide
    have t : (3#32).toInt = 3 := by decide
    have l := (x7 ix0).isLt
    rw [z] at h1
    rw [t] at h2
    split at h1 <;> simp_all <;> omega
  refine ⟨⟨(x7 ix0).toNat, h3⟩, funext fun j => ?_⟩
  rw [show j = ix0 from funext fun k => k.elim0]
  simp

/-- The scale table is positive and finite. -/
theorem scale_of (h : (fn (F := Ideal) x0 x1 x2 x3 x4 x5 x6 x7).2.1 = fun _ => 1#1) (k : Fin 3) (p q : Fin 8) :
    ∃ r : ℝ, 0 < r ∧ (x1 (ix3 k p q) : EReal) = r := by
  have e : (fn (F := Ideal) x0 x1 x2 x3 x4 x5 x6 x7).2.1 (ix3 k p q) = 1#1 := congrFun h _
  revert e
  unfold fn fn_part1 fn_part2
  dsimp only
  pointwise []
  rw [inf_word]
  exact fun e => real_of_pos (holds_of (both e).1) (holds_of (both e).2)

/-- The step is finite, not negative, and the same in every channel. -/
theorem step_of (h : (fn (F := Ideal) x0 x1 x2 x3 x4 x5 x6 x7).2.2.1 = fun _ => 1#1) :
    ∃ r : ℝ, 0 ≤ r ∧ ∀ p q, (x2 (ix2 p q) : EReal) = r := by
  have e : ∀ p q, (∃ r : ℝ, 0 ≤ r ∧ (x2 (ix2 p q) : EReal) = r) ∧ (x2 (ix2 p q) : EReal) = x2 (ix2 0 0) := fun p q => by
    have e : (fn (F := Ideal) x0 x1 x2 x3 x4 x5 x6 x7).2.2.1 (ix2 p q) = 1#1 := congrFun h _
    revert e
    unfold fn fn_part1 fn_part2
    dsimp only
    pointwise []
    rw [inf_word]
    exact fun e => ⟨real_of_nonneg (holds_of (both (both e).1).1) (holds_of (both (both e).1).2), holds_of (both e).2⟩
  obtain ⟨r, hr, er⟩ := (e 0 0).1
  exact ⟨r, hr, fun p q => (e p q).2.trans er⟩

/-- The offset is finite and the same in every channel. -/
theorem offset_of (h : (fn (F := Ideal) x0 x1 x2 x3 x4 x5 x6 x7).2.2.2.1 = fun _ => 1#1) :
    ∃ r : ℝ, ∀ p q, (x3 (ix2 p q) : EReal) = r := by
  have e : ∀ p q, (∃ r : ℝ, (x3 (ix2 p q) : EReal) = r) ∧ (x3 (ix2 p q) : EReal) = x3 (ix2 0 0) := fun p q => by
    have e : (fn (F := Ideal) x0 x1 x2 x3 x4 x5 x6 x7).2.2.2.1 (ix2 p q) = 1#1 := congrFun h _
    revert e
    unfold fn fn_part1 fn_part2
    dsimp only
    pointwise []
    rw [inf_word]
    exact fun e => ⟨real_of_abs (holds_of (both e).1), holds_of (both e).2⟩
  obtain ⟨r, er⟩ := (e 0 0).1
  exact ⟨r, fun p q => (e p q).2.trans er⟩

/-- The deviation is positive, finite and the same in every channel. -/
theorem deviation_of (h : (fn (F := Ideal) x0 x1 x2 x3 x4 x5 x6 x7).2.2.2.2.1 = fun _ => 1#1) :
    ∃ r : ℝ, 0 < r ∧ ∀ p q, (x4 (ix2 p q) : EReal) = r := by
  have e : ∀ p q, (∃ r : ℝ, 0 < r ∧ (x4 (ix2 p q) : EReal) = r) ∧ (x4 (ix2 p q) : EReal) = x4 (ix2 0 0) := fun p q => by
    have e : (fn (F := Ideal) x0 x1 x2 x3 x4 x5 x6 x7).2.2.2.2.1 (ix2 p q) = 1#1 := congrFun h _
    revert e
    unfold fn fn_part1 fn_part2
    dsimp only
    pointwise []
    rw [inf_word]
    exact fun e => ⟨real_of_pos (holds_of (both (both e).1).1) (holds_of (both (both e).1).2), holds_of (both e).2⟩
  obtain ⟨r, hr, er⟩ := (e 0 0).1
  exact ⟨r, hr, fun p q => (e p q).2.trans er⟩

/-- The grid is finite, the same in every channel, and does not decrease. -/
theorem grid_of (h : (fn (F := Ideal) x0 x1 x2 x3 x4 x5 x6 x7).2.2.2.2.2.1 = fun _ => 1#1)
    (h' : (fn (F := Ideal) x0 x1 x2 x3 x4 x5 x6 x7).2.2.2.2.2.2.1 = fun _ => 1#1) :
    ∃ g : Fin 257 → ℝ, Monotone g ∧ ∀ p q k, (x5 (ix3 p q k) : EReal) = g k := by
  have e : ∀ p q k, (∃ r : ℝ, (x5 (ix3 p q k) : EReal) = r) ∧ (x5 (ix3 p q k) : EReal) = x5 (ix3 0 0 k) := fun p q k => by
    have e : (fn (F := Ideal) x0 x1 x2 x3 x4 x5 x6 x7).2.2.2.2.2.1 (ix3 p q k) = 1#1 := congrFun h _
    revert e
    unfold fn fn_part1 fn_part2
    dsimp only
    pointwise []
    rw [inf_word]
    exact fun e => ⟨real_of_abs (holds_of (both e).1), holds_of (both e).2⟩
  have e' : ∀ k : Fin 256, (x5 (ix3 0 0 k.castSucc) : EReal) ≤ x5 (ix3 0 0 k.succ) := fun k => by
    have e : (fn (F := Ideal) x0 x1 x2 x3 x4 x5 x6 x7).2.2.2.2.2.2.1 (ix3 0 0 k) = 1#1 := congrFun h' _
    revert e
    unfold fn fn_part1 fn_part2
    dsimp only
    pointwise []
    intro e
    rw [show k.succ = ⟨1 + k.val, by omega⟩ from Fin.ext (Nat.add_comm _ _)]
    exact holds_of e
  choose g hg using fun k => (e 0 0 k).1
  refine ⟨g, Fin.monotone_iff_le_succ.2 fun k => ?_, fun p q k => (e p q k).2.trans (hg k)⟩
  have := e' k
  rw [hg, hg] at this
  exact EReal.coe_le_coe_iff.1 this

/-- The noise is finite. -/
theorem noise_of (h : (fn (F := Ideal) x0 x1 x2 x3 x4 x5 x6 x7).2.2.2.2.2.2.2 = fun _ => 1#1) (a : Fin 16) (n : Fin 1024) (p q : Fin 8) :
    ∃ v : Fin 256 → ℝ, ∀ k, (x6 (ix6 a 0 n p q k) : EReal) = v k := by
  have e : ∀ k, ∃ r : ℝ, (x6 (ix6 a 0 n p q k) : EReal) = r := fun k => by
    have e : (fn (F := Ideal) x0 x1 x2 x3 x4 x5 x6 x7).2.2.2.2.2.2.2 (ix6 a 0 n p q k) = 1#1 := congrFun h _
    revert e
    unfold fn fn_part1 fn_part2
    dsimp only
    pointwise []
    rw [inf_word]
    exact fun e => real_of_abs (holds_of e)
  choose v hv using e
  exact ⟨v, hv⟩

end Cert.Pre_valid.Says

end
-- ==== Proof.Take.lean ====
/-
  Two reads that the host operations before the launch need: the selected row of the resizing table, and the matrix of
  weights whose first column holds the bin edges and whose second column holds ones.
-/
module

public import proofs.«01_k».proof.Proof.Gen.KernelIdeal.Frame
public import Idealize.ShloMosaic.Lib.Pointwise
public import Idealize.ShloMosaic.Lib.Routing.OpsPair
public import Idealize.ShloMosaic.Lib.Routing.OpsSet

@[expose] public section

noncomputable section

namespace Cert.KernelIdeal.Entry

open Cert.KernelIdeal Cert.KernelIdeal.Gen Idealize.ShloMosaic Idealize.ShloMosaic.TcCoe Idealize.SL.Sem

/-- A row of the table by a start index in range: the row of that number. -/
theorem gather_row (y : FVec Ideal S3x8x8 .f32) (i : Fin 3) (idx : IVec S1 32) (h : ∀ j, idx j = BitVec.ofNat 32 i.val) (p q : Fin 8) :
    Host.gather gather_S3x8x8_S1_S8x8_01_0_n_n_0_0_188 y idx (ix2 p q) = y (ix3 i p q) := by
  unfold Host.gather
  refine congrArg y (funext fun a => Fin.ext ?_)
  obtain rfl : idx = fun _ => BitVec.ofNat 32 i.val := funext h
  match a with
  | ⟨0, _⟩ => fin_cases i <;> rfl
  | ⟨1, _⟩ => exact (Nat.zero_add _).trans rfl
  | ⟨2, _⟩ => exact (Nat.zero_add _).trans rfl

/-- The same, as the host writes it: a negative index counted from the end, and a value of its own where the index is out
    of range, neither of which happens for a row of the table. -/
theorem take_row (y : FVec Ideal S3x8x8 .f32) (w : IVec S_ 32) (i : Fin 3) (hw : w = fun _ => BitVec.ofNat 32 i.val) (p q : Fin 8) :
    (Scalar.select
      (Finset.fold IntOp.andi (1#1)
        (fun _ : Fin 1 =>
          IntOp.andi
            (IntOp.cmpi CmpIPredicate.sge
              (Scalar.select (IntOp.cmpi CmpIPredicate.slt (w ix0) 0#32) (IntOp.addi (w ix0) 3#32) (w ix0)) 0#32)
            (IntOp.cmpi CmpIPredicate.sle
              (Scalar.select (IntOp.cmpi CmpIPredicate.slt (w ix0) 0#32) (IntOp.addi (w ix0) 3#32) (w ix0)) 2#32))
        Finset.univ)
      (Host.gather gather_S3x8x8_S1_S8x8_01_0_n_n_0_0_188 y
        (broadcastInDim S1 ![] bcast_S_S1
          (select (cmpi CmpIPredicate.slt w (constantI S_ 32 0#32)) (addi w (constantI S_ 32 3#32)) w))
        (ix2 p q))
      (Ideal.ofBits FTy.f32 2143289344#32) : EReal) = y (ix3 i p q) := by
  subst hw
  have hg := gather_row y i (broadcastInDim S1 ![] bcast_S_S1
          (select (cmpi CmpIPredicate.slt (fun _ => BitVec.ofNat 32 i.val) (constantI S_ 32 0#32))
            (addi (fun _ => BitVec.ofNat 32 i.val) (constantI S_ 32 3#32)) (fun _ => BitVec.ofNat 32 i.val)))
    (fun j => by fin_cases i <;> rfl) p q
  rw [hg]
  fin_cases i <;> rfl

/-- Where an update of one column lands: in that column, at its own row. -/
theorem column_lands (idx : IVec S1 32) (i : Fin 2) (hi : idx = fun _ => BitVec.ofNat 32 i.val) (e : S256.Idx) (k : Fin 256) (j : Fin 128) :
    scatter_S256x128_S1_S256_0_1_1_0.resultIdx? e idx = some (ix2 k j) ↔ (e 0).val = k.val ∧ i.val = j.val := by
  rw [Routing.resultIdx?_eq_some]
  have h0 : scatter_S256x128_S1_S256_0_1_1_0.start e idx 0 + (scatter_S256x128_S1_S256_0_1_1_0.window e 0 : Int) = (((e 0).val : Nat) : Int) :=
    Int.zero_add _
  have h1 : scatter_S256x128_S1_S256_0_1_1_0.start e idx 1 + (scatter_S256x128_S1_S256_0_1_1_0.window e 1 : Int) = ((i.val : Nat) : Int) := by
    subst hi
    fin_cases i <;> rfl
  constructor
  · intro h
    have a0 := h 0
    have a1 := h 1
    rw [h0] at a0
    rw [h1] at a1
    exact ⟨Int.ofNat_inj.1 a0, Int.ofNat_inj.1 a1⟩
  · rintro ⟨a0, a1⟩ b
    match b with
    | ⟨0, _⟩ => exact h0.trans (Int.ofNat_inj.2 a0)
    | ⟨1, _⟩ => exact h1.trans (Int.ofNat_inj.2 a1)

/-- One column overwritten, read in that column. -/
theorem column_set (x : FVec Ideal S256x128 .f32) (idx : IVec S1 32) (i : Fin 2) (hi : idx = fun _ => BitVec.ofNat 32 i.val)
    (v : FVec Ideal S256 .f32) (k : Fin 256) (j : Fin 128) (hj : i.val = j.val) :
    Host.scatter scatter_S256x128_S1_S256_0_1_1_0 (fun _ b => b) x idx v (ix2 k j) = v (ix1 k) := by
  refine Routing.scatter_set_hit _ _ _ _ _ _ (fun e he => congrArg v (funext fun b => Fin.ext ?_)) (ix1 k)
    ((column_lands idx i hi _ k j).2 ⟨rfl, hj⟩)
  obtain rfl : b = 0 := Subsingleton.elim _ _
  exact ((column_lands idx i hi e k j).1 he).1

/-- One column overwritten, read in another column. -/
theorem column_kept (x : FVec Ideal S256x128 .f32) (idx : IVec S1 32) (i : Fin 2) (hi : idx = fun _ => BitVec.ofNat 32 i.val)
    (v : FVec Ideal S256 .f32) (k : Fin 256) (j : Fin 128) (hj : i.val ≠ j.val) :
    Host.scatter scatter_S256x128_S1_S256_0_1_1_0 (fun _ b => b) x idx v (ix2 k j) = x (ix2 k j) :=
  Routing.scatter_set_miss _ _ _ _ _ fun e he => hj ((column_lands idx i hi e k j).1 he).2

end Cert.KernelIdeal.Entry

end
-- ==== Proof.Entry.lean ====
/-
  The arrays that the host operations before the launch leave for the kernel, read at one index in terms of the
  arguments.
-/
module

public import proofs.«01_k».proof.Proof.Take
public import Idealize.ShloMosaic.Lib.StableHlo.ReadAt

@[expose] public section

noncomputable section

namespace Cert.KernelIdeal.Entry

open Cert.KernelIdeal Cert.KernelIdeal.Gen Idealize.ShloMosaic Idealize.ShloMosaic.TcCoe Idealize.SL.Sem

/-- The base-two logarithm of Euler's number, as the host computes it. -/
def lg : EReal := Ideal.div 1 (Ideal.log (Ideal.ofBits .f32 0x40000000#32))

/-- The arguments, by their elements. -/
structure Args (m : (ℓ : Loc nD τ sig) → Buf (Elt Ideal) ℓ) (c : Dev nD) where
  x : Fin 16 → Fin 1024 → Fin 8 → Fin 8 → EReal
  rz : Fin 3 → Fin 8 → Fin 8 → EReal
  al : Fin 8 → Fin 8 → EReal
  be : Fin 8 → Fin 8 → EReal
  dv : Fin 8 → Fin 8 → EReal
  gb : Fin 8 → Fin 8 → Fin 257 → EReal
  u : Fin 16 → Fin 1024 → Fin 8 → Fin 8 → Fin 256 → EReal
  i : Fin 3
  hx : ∀ a n p q, (m (c, Proc.devRef .tc main_arg0) : FVec Ideal S16x1x1024x8x8 .f32) (ix5 a 0 n p q) = x a n p q
  hr : ∀ k p q, (m (c, Proc.devRef .tc main_arg1) : FVec Ideal S3x8x8 .f32) (ix3 k p q) = rz k p q
  ha : ∀ p q, (m (c, Proc.devRef .tc main_arg2) : FVec Ideal S8x8 .f32) (ix2 p q) = al p q
  hb : ∀ p q, (m (c, Proc.devRef .tc main_arg3) : FVec Ideal S8x8 .f32) (ix2 p q) = be p q
  hd : ∀ p q, (m (c, Proc.devRef .tc main_arg4) : FVec Ideal S8x8 .f32) (ix2 p q) = dv p q
  hg : ∀ p q k, (m (c, Proc.devRef .tc main_arg5) : FVec Ideal S8x8x257 .f32) (ix3 p q k) = gb p q k
  hu : ∀ a n p q k, (m (c, Proc.devRef .tc main_arg6) : FVec Ideal S16x1x1024x8x8x256 .f32) (ix6 a 0 n p q k) = u a n p q k
  hi : (m (c, Proc.devRef .tc main_arg7) : IVec S_ 32) = fun _ => BitVec.ofNat 32 i.val

variable (m : (ℓ : Loc nD τ sig) → Buf (Elt Ideal) ℓ) (c : Dev nD) (A : Args m c)

/-- The bin edges. -/
def Args.g {m : (ℓ : Loc nD τ sig) → Buf (Elt Ideal) ℓ} {c : Dev nD} (A : Args m c) (k : Fin 257) : EReal := A.gb 0 0 k * A.al 0 0 + A.be 0 0

/-- The input, two blocks of axes joined. -/
theorem inp_at (n : Fin 16384) (p : Fin 64) :
    (V m c main_v47 : FVec Ideal S16384x64 .f32) (ix2 n p)
      = A.x ⟨n.val / 1024, by omega⟩ ⟨n.val % 1024, by omega⟩ ⟨p.val / 8, by omega⟩ ⟨p.val % 8, by omega⟩ := by
  unfold V V0
  after_reads_at
  exact A.hx _ _ _ _

/-- The noise, likewise. -/
theorem u_at (n : Fin 16384) (p : Fin 64) (k : Fin 256) :
    (V m c main_v48 : FVec Ideal S16384x64x256 .f32) (ix3 n p k)
      = A.u ⟨n.val / 1024, by omega⟩ ⟨n.val % 1024, by omega⟩ ⟨p.val / 8, by omega⟩ ⟨p.val % 8, by omega⟩ k := by
  unfold V V0
  after_reads_at
  exact A.hu _ _ _ _ _

/-- The selected row. -/
theorem r_at (p : Fin 64) :
    (V m c main_v1 : FVec Ideal S1x64 .f32) (ix2 0 p) = A.rz A.i ⟨p.val / 8, by omega⟩ ⟨p.val % 8, by omega⟩ := by
  unfold V V0
  after_reads_at
  exact (take_row _ _ A.i A.hi _ _).trans (A.hr _ _ _)

/-- The reciprocal of the selected row. -/
theorem invr_at (p : Fin 64) :
    (V m c main_v42 : FVec Ideal S1x64 .f32) (ix2 0 p) = Ideal.div 1 (A.rz A.i ⟨p.val / 8, by omega⟩ ⟨p.val % 8, by omega⟩) := by
  unfold V V0
  after_reads_at
  exact congrArg (Ideal.div 1) ((take_row _ _ A.i A.hi _ _).trans (A.hr _ _ _))

/-- The factor of the input at the last edge. -/
theorem invrd_at (p : Fin 64) :
    (V m c main_v46 : FVec Ideal S1x64 .f32) (ix2 0 p)
      = Ideal.div lg (A.rz A.i ⟨p.val / 8, by omega⟩ ⟨p.val % 8, by omega⟩ * A.dv 0 0) := by
  unfold V V0
  after_reads_at
  exact congrArg (Ideal.div lg) (congrArg₂ (· * ·) ((take_row _ _ A.i A.hi _ _).trans (A.hr _ _ _)) (A.hd 0 0))

/-- The last edge, scaled. -/
theorem gdl_at (p : Fin 64) :
    (V m c main_v28 : FVec Ideal S1x64 .f32) (ix2 0 p) = A.g 256 * Ideal.div lg (A.dv 0 0) := by
  unfold V V0
  after_reads_at
  rw [A.hg, A.ha, A.hb, A.hd]
  rfl

/-- The first row of the small matrix: ones. -/
theorem bmat_at_zero (k : Fin 256) : (V m c main_v33 : FVec Ideal S2x256 .f32) (ix2 0 k) = (1 : EReal) := by
  unfold V V0
  after_reads_at

/-- Its second row: the edges, scaled and negated. -/
theorem bmat_at_one (k : Fin 256) :
    (V m c main_v33 : FVec Ideal S2x256 .f32) (ix2 1 k) = -(A.g ⟨k.val, by omega⟩ * Ideal.div lg (A.dv 0 0)) := by
  unfold V V0
  after_reads_at
  rw [A.hg, A.ha, A.hb, A.hd]
  rfl

/-- The first column of the tall matrix: the input, scaled. -/
theorem acol_at_zero (n : Fin 1048576) :
    (V m c main_v59 : FVec Ideal S1048576x2 .f32) (ix2 n 0)
      = A.x ⟨n.val / 65536, by omega⟩ ⟨n.val / 64 % 1024, by omega⟩ ⟨n.val / 8 % 8, by omega⟩ ⟨n.val % 8, by omega⟩
        * Ideal.div lg (A.rz A.i ⟨n.val / 8 % 8, by omega⟩ ⟨n.val % 8, by omega⟩ * A.dv 0 0) := by
  unfold V V0
  after_reads_at
  refine congrArg₂ (· * ·) (A.hx _ _ _ _) ?_
  exact congrArg (Ideal.div lg) (congrArg₂ (· * ·) ((take_row _ _ A.i A.hi _ _).trans (A.hr _ _ _)) (A.hd 0 0))

/-- Its second column: ones. -/
theorem acol_at_one (n : Fin 1048576) : (V m c main_v59 : FVec Ideal S1048576x2 .f32) (ix2 n 1) = (1 : EReal) := by
  unfold V V0
  after_reads_at

/-- The first column of the weights: the edges. -/
theorem w_at_zero (k : Fin 256) : (V m c main_v40 : FVec Ideal S256x128 .f32) (ix2 k 0) = A.g ⟨k.val, by omega⟩ := by
  unfold V V0
  after_reads_at
  refine (column_kept _ _ 1 rfl _ k 0 (by decide)).trans ((column_set _ _ 0 rfl _ k 0 rfl).trans ?_)
  pointwise
  rw [A.hg, A.ha, A.hb]
  rfl

/-- The second column of the weights: ones. -/
theorem w_at_one (k : Fin 256) : (V m c main_v40 : FVec Ideal S256x128 .f32) (ix2 k 1) = (1 : EReal) := by
  unfold V V0
  after_reads_at
  refine (column_set _ _ 1 rfl _ k 1 rfl).trans ?_
  pointwise

end Cert.KernelIdeal.Entry

end
-- ==== Proof.Body.lean ====
/-
  What one run of the kernel body leaves in its two output staging buffers, as payloads of the point's input blocks.
  The out block is the same function of the blocks at every point; the accumulator block starts from zero at a core's
  first point and from what the point before left at every later one.
-/
module

public import proofs.«01_k».proof.Proof.Gen.KernelIdeal.Frame
public import Idealize.ShloMosaic.Lib.Pipeline.Value
public import Idealize.ShloMosaic.Lib.Tactic

@[expose] public section

noncomputable section

namespace Cert.KernelIdeal.Body

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The zero offsets of a rank-2 access. -/
theorem off2 : (![0, 0] : Fin 2 → Nat) = fun _ => 0 := funext fun a => by fin_cases a <;> rfl
/-- The zero offsets of a rank-3 access. -/
theorem off3 : (![0, 0, 0] : Fin 3 → Nat) = fun _ => 0 := funext fun a => by fin_cases a <;> rfl

/-- The out block of a point, of its nine input blocks in window order. -/
def outBlk (x0 : Vec F S128x64 .f32) (x1 : Vec F S8192x2 .f32) (x2 : Vec F S128x64x256 .f32) (x3 : Vec F S2x256 .f32)
    (x4 : Vec F S256x128 .f32) (x5 x7 x8 : Vec F S1x64 .f32) : Vec F S128x64 .f32 :=
  k0_pay1 (k0_pay5 x0 x7 x2 x1 x3 x5) x4 x8

/-- The accumulator block after a point, of what it held, the point's rows and the reciprocal scale. -/
def accBlk (acc : Vec F S1x1x64 .f32) (x0 : Vec F S128x64 .f32) (x6 : Vec F S1x64 .f32) : Vec F S1x1x64 .f32 :=
  k0_pay3 (k0_pay4 x0) acc x6

section Cases
variable (c : Dev nD) (i : grid0.Coords) (arg2 : Memref sig .tc .vmem S128x64 .f32) (harg2 : arg2.IsWhole) (arg3 : Memref sig .tc .vmem S8192x2 .f32) (harg3 : arg3.IsWhole) (arg4 : Memref sig .tc .vmem S128x64x256 .f32) (harg4 : arg4.IsWhole) (arg5 : Memref sig .tc .vmem S2x256 .f32) (harg5 : arg5.IsWhole) (arg6 : Memref sig .tc .vmem S256x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x1x64 .f32) (harg12 : arg12.IsWhole)
    (x0 : Vec F S128x64 .f32) (x1 : Vec F S8192x2 .f32) (x2 : Vec F S128x64x256 .f32) (x3 : Vec F S2x256 .f32) (x4 : Vec F S256x128 .f32) (x5 : Vec F S1x64 .f32) (x6 : Vec F S1x64 .f32) (x7 : Vec F S1x64 .f32) (x8 : Vec F S1x64 .f32) (xo : Vec F S1x1x64 .f32)

/-- At a core's first point the out block is `outBlk` of the input blocks. -/
theorem out_first (hc : cond0_0 i) :
    out0_A_9 c i arg2 harg2 arg3 harg3 arg4 harg4 arg5 harg5 arg6 harg6 arg7 harg7 arg8 harg8 arg9 harg9 arg10 harg10 arg11 harg11 arg12 harg12 hc x0 x1 x2 x3 x4 x5 x6 x7 x8
      = outBlk x0 x1 x2 x3 x4 x5 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc x0 x1 x2 x3 x4 x5 x6 x7 x8)]
  unfold kernelRun0_A
  dsimp only
  sl_unfold_words
  rw [View.canon_unit_zero off2]
  unfold outBlk
  simp only [View.readAt_eq_ld, harg2.read_unread, harg3.read_unread, harg4.read_unread, harg5.read_unread, harg6.read_unread, harg7.read_unread, harg8.read_unread, harg9.read_unread, harg10.read_unread, View.ld_unit_zero (S := S128x64) off2, View.ld_unit_zero (S := S8192x2) off2, View.ld_unit_zero (S := S2x256) off2, View.ld_unit_zero (S := S256x128) off2, View.ld_unit_zero (S := S1x64) off2, View.ld_unit_zero (S := S128x64x256) off3, View.ld_unit_zero (S := S1x1x64) off3]

/-- At every later point of a core the out block is the same function of the input blocks. -/
theorem out_later (hc : ¬cond0_0 i) :
    out0_B_9 c i arg2 harg2 arg3 harg3 arg4 harg4 arg5 harg5 arg6 harg6 arg7 harg7 arg8 harg8 arg9 harg9 arg10 harg10 arg11 harg11 arg12 harg12 hc x0 x1 x2 x3 x4 x5 x6 x7 x8 xo
      = outBlk x0 x1 x2 x3 x4 x5 x7 x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc x0 x1 x2 x3 x4 x5 x6 x7 x8 xo)]
  unfold kernelRun0_B
  dsimp only
  sl_unfold_words
  rw [View.canon_unit_zero off2]
  unfold outBlk
  simp only [View.readAt_eq_ld, harg2.read_unread, harg3.read_unread, harg4.read_unread, harg5.read_unread, harg6.read_unread, harg7.read_unread, harg8.read_unread, harg9.read_unread, harg10.read_unread, View.ld_unit_zero (S := S128x64) off2, View.ld_unit_zero (S := S8192x2) off2, View.ld_unit_zero (S := S2x256) off2, View.ld_unit_zero (S := S256x128) off2, View.ld_unit_zero (S := S1x64) off2, View.ld_unit_zero (S := S128x64x256) off3, View.ld_unit_zero (S := S1x1x64) off3]

/-- At a core's first point the accumulator block is the point's contribution added to zero. -/
theorem acc_first (hc : cond0_0 i) :
    out0_A_10 c i arg2 harg2 arg3 harg3 arg4 harg4 arg5 harg5 arg6 harg6 arg7 harg7 arg8 harg8 arg9 harg9 arg10 harg10 arg11 harg11 arg12 harg12 hc x0 x1 x2 x3 x4 x5 x6 x7 x8
      = accBlk k0_pay2 x0 x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc x0 x1 x2 x3 x4 x5 x6 x7 x8)]
  unfold kernelRun0_A
  dsimp only
  sl_unfold_words
  rw [View.canon_cons_unit_zero (S := S1x1x64) off3, View.readCov_unit_zero (S := S1x1x64) _ off3]
  unfold accBlk
  simp only [View.readAt_eq_ld, harg2.read_unread, harg8.read_unread, View.ld_unit_zero (S := S128x64) off2, View.ld_unit_zero (S := S8192x2) off2, View.ld_unit_zero (S := S2x256) off2, View.ld_unit_zero (S := S256x128) off2, View.ld_unit_zero (S := S1x64) off2, View.ld_unit_zero (S := S128x64x256) off3, View.ld_unit_zero (S := S1x1x64) off3]

/-- At every later point of a core it is the contribution added to what the point before left. -/
theorem acc_later (hc : ¬cond0_0 i) :
    out0_B_10 c i arg2 harg2 arg3 harg3 arg4 harg4 arg5 harg5 arg6 harg6 arg7 harg7 arg8 harg8 arg9 harg9 arg10 harg10 arg11 harg11 arg12 harg12 hc x0 x1 x2 x3 x4 x5 x6 x7 x8 xo
      = accBlk xo x0 x6 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc x0 x1 x2 x3 x4 x5 x6 x7 x8 xo)]
  unfold kernelRun0_B
  dsimp only
  sl_unfold_words
  rw [View.canon_unit_zero (S := S1x1x64) off3]
  unfold accBlk
  simp only [View.readAt_eq_ld, harg2.read_unread, harg8.read_unread, harg12.read_unread, View.ld_unit_zero (S := S128x64) off2, View.ld_unit_zero (S := S8192x2) off2, View.ld_unit_zero (S := S2x256) off2, View.ld_unit_zero (S := S256x128) off2, View.ld_unit_zero (S := S1x64) off2, View.ld_unit_zero (S := S128x64x256) off3, View.ld_unit_zero (S := S1x1x64) off3]

end Cases

end Cert.KernelIdeal.Body

end
-- ==== Proof.Blocks.lean ====
/-
  What sits where: each point's input blocks as parts of the arrays the launch finds, and the two output arrays after the
  launch as what the points wrote back.
-/
module

public import proofs.«01_k».proof.Proof.Body
public import Idealize.ShloMosaic.Lib.Pointwise
public import Idealize.ShloMosaic.Lib.Pipeline.Value

@[expose] public section

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD) (t : Fin cfg0.N)

/-- There are 128 points. -/
theorem points_lt : t.val < 128 := lt_of_lt_of_eq t.isLt N_0

/-- Where window 0's block sits. -/
theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, read at an index. -/
theorem inp_blk (a : Fin 128) (p : Fin 64) :
    (iblk m c 0 t : FVec F S128x64 .f32) (ix2 a p) = (V m c main_v47 : FVec F S16384x64 .f32) (ix2 ⟨t.val * 128 + a.val, by have := points_lt t; omega⟩ p) := by
  have hi := index0 t
  unfold iblk
  rw [View.read_apply]
  show V m c main_v47 _ = V m c main_v47 _
  refine congrArg (V m c main_v47) (funext fun e => Fin.ext ?_)
  match e with
  | ⟨0, _⟩ => show win0_0.index t 0 * 128 + 1 * a.val = t.val * 128 + a.val; rw [hi.1]; omega
  | ⟨1, _⟩ => show win0_0.index t 1 * 64 + 1 * p.val = p.val; rw [hi.2]; omega

/-- Where window 1's block sits. -/
theorem index1 : ∀ t : Fin cfg0.N, win0_1.index t 0 = t.val ∧ win0_1.index t 1 = 0 :=
  (by decide +kernel : ∀ t : Fin grid0.N, win0_1.index t 0 = t.val ∧ win0_1.index t 1 = 0)

/-- Window 1's block at a point, read at an index. -/
theorem acol_blk (a : Fin 8192) (p : Fin 2) :
    (iblk m c 1 t : FVec F S8192x2 .f32) (ix2 a p) = (V m c main_v59 : FVec F S1048576x2 .f32) (ix2 ⟨t.val * 8192 + a.val, by have := points_lt t; omega⟩ p) := by
  have hi := index1 t
  unfold iblk
  rw [View.read_apply]
  show V m c main_v59 _ = V m c main_v59 _
  refine congrArg (V m c main_v59) (funext fun e => Fin.ext ?_)
  match e with
  | ⟨0, _⟩ => show win0_1.index t 0 * 8192 + 1 * a.val = t.val * 8192 + a.val; rw [hi.1]; omega
  | ⟨1, _⟩ => show win0_1.index t 1 * 2 + 1 * p.val = p.val; rw [hi.2]; omega

/-- Where window 2's block sits. -/
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- Window 2's block at a point, read at an index. -/
theorem u_blk (a : Fin 128) (p : Fin 64) (k : Fin 256) :
    (iblk m c 2 t : FVec F S128x64x256 .f32) (ix3 a p k) = (V m c main_v48 : FVec F S16384x64x256 .f32) (ix3 ⟨t.val * 128 + a.val, by have := points_lt t; omega⟩ p k) := by
  have hi := index2 t
  unfold iblk
  rw [View.read_apply]
  show V m c main_v48 _ = V m c main_v48 _
  refine congrArg (V m c main_v48) (funext fun e => Fin.ext ?_)
  match e with
  | ⟨0, _⟩ => show win0_2.index t 0 * 128 + 1 * a.val = t.val * 128 + a.val; rw [hi.1]; omega
  | ⟨1, _⟩ => show win0_2.index t 1 * 64 + 1 * p.val = p.val; rw [hi.2.1]; omega
  | ⟨2, _⟩ => show win0_2.index t 2 * 256 + 1 * k.val = k.val; rw [hi.2.2]; omega

/-- Where window 3's block sits. -/
theorem index3 : ∀ t : Fin cfg0.N, win0_3.index t 0 = 0 ∧ win0_3.index t 1 = 0 :=
  (by decide +kernel : ∀ t : Fin grid0.N, win0_3.index t 0 = 0 ∧ win0_3.index t 1 = 0)

/-- Window 3's block at a point, read at an index. -/
theorem bmat_blk (a : Fin 2) (p : Fin 256) :
    (iblk m c 3 t : FVec F S2x256 .f32) (ix2 a p) = (V m c main_v33 : FVec F S2x256 .f32) (ix2 a p) := by
  have hi := index3 t
  unfold iblk
  rw [View.read_apply]
  show V m c main_v33 _ = V m c main_v33 _
  refine congrArg (V m c main_v33) (funext fun e => Fin.ext ?_)
  match e with
  | ⟨0, _⟩ => show win0_3.index t 0 * 2 + 1 * a.val = a.val; rw [hi.1]; omega
  | ⟨1, _⟩ => show win0_3.index t 1 * 256 + 1 * p.val = p.val; rw [hi.2]; omega

/-- Where window 4's block sits. -/
theorem index4 : ∀ t : Fin cfg0.N, win0_4.index t 0 = 0 ∧ win0_4.index t 1 = 0 :=
  (by decide +kernel : ∀ t : Fin grid0.N, win0_4.index t 0 = 0 ∧ win0_4.index t 1 = 0)

/-- Window 4's block at a point, read at an index. -/
theorem w_blk (a : Fin 256) (p : Fin 128) :
    (iblk m c 4 t : FVec F S256x128 .f32) (ix2 a p) = (V m c main_v40 : FVec F S256x128 .f32) (ix2 a p) := by
  have hi := index4 t
  unfold iblk
  rw [View.read_apply]
  show V m c main_v40 _ = V m c main_v40 _
  refine congrArg (V m c main_v40) (funext fun e => Fin.ext ?_)
  match e with
  | ⟨0, _⟩ => show win0_4.index t 0 * 256 + 1 * a.val = a.val; rw [hi.1]; omega
  | ⟨1, _⟩ => show win0_4.index t 1 * 128 + 1 * p.val = p.val; rw [hi.2]; omega

/-- Where window 5's block sits. -/
theorem index5 : ∀ t : Fin cfg0.N, win0_5.index t 0 = 0 ∧ win0_5.index t 1 = 0 :=
  (by decide +kernel : ∀ t : Fin grid0.N, win0_5.index t 0 = 0 ∧ win0_5.index t 1 = 0)

/-- Window 5's block at a point, read at an index. -/
theorem gdl_blk (a : Fin 1) (p : Fin 64) :
    (iblk m c 5 t : FVec F S1x64 .f32) (ix2 a p) = (V m c main_v28 : FVec F S1x64 .f32) (ix2 a p) := by
  have hi := index5 t
  unfold iblk
  rw [View.read_apply]
  show V m c main_v28 _ = V m c main_v28 _
  refine congrArg (V m c main_v28) (funext fun e => Fin.ext ?_)
  match e with
  | ⟨0, _⟩ => show win0_5.index t 0 * 1 + 1 * a.val = a.val; rw [hi.1]; omega
  | ⟨1, _⟩ => show win0_5.index t 1 * 64 + 1 * p.val = p.val; rw [hi.2]; omega

/-- Where window 6's block sits. -/
theorem index6 : ∀ t : Fin cfg0.N, win0_6.index t 0 = 0 ∧ win0_6.index t 1 = 0 :=
  (by decide +kernel : ∀ t : Fin grid0.N, win0_6.index t 0 = 0 ∧ win0_6.index t 1 = 0)

/-- Window 6's block at a point, read at an index. -/
theorem invr_blk (a : Fin 1) (p : Fin 64) :
    (iblk m c 6 t : FVec F S1x64 .f32) (ix2 a p) = (V m c main_v42 : FVec F S1x64 .f32) (ix2 a p) := by
  have hi := index6 t
  unfold iblk
  rw [View.read_apply]
  show V m c main_v42 _ = V m c main_v42 _
  refine congrArg (V m c main_v42) (funext fun e => Fin.ext ?_)
  match e with
  | ⟨0, _⟩ => show win0_6.index t 0 * 1 + 1 * a.val = a.val; rw [hi.1]; omega
  | ⟨1, _⟩ => show win0_6.index t 1 * 64 + 1 * p.val = p.val; rw [hi.2]; omega

/-- Where window 7's block sits. -/
theorem index7 : ∀ t : Fin cfg0.N, win0_7.index t 0 = 0 ∧ win0_7.index t 1 = 0 :=
  (by decide +kernel : ∀ t : Fin grid0.N, win0_7.index t 0 = 0 ∧ win0_7.index t 1 = 0)

/-- Window 7's block at a point, read at an index. -/
theorem invrd_blk (a : Fin 1) (p : Fin 64) :
    (iblk m c 7 t : FVec F S1x64 .f32) (ix2 a p) = (V m c main_v46 : FVec F S1x64 .f32) (ix2 a p) := by
  have hi := index7 t
  unfold iblk
  rw [View.read_apply]
  show V m c main_v46 _ = V m c main_v46 _
  refine congrArg (V m c main_v46) (funext fun e => Fin.ext ?_)
  match e with
  | ⟨0, _⟩ => show win0_7.index t 0 * 1 + 1 * a.val = a.val; rw [hi.1]; omega
  | ⟨1, _⟩ => show win0_7.index t 1 * 64 + 1 * p.val = p.val; rw [hi.2]; omega

/-- Where window 8's block sits. -/
theorem index8 : ∀ t : Fin cfg0.N, win0_8.index t 0 = 0 ∧ win0_8.index t 1 = 0 :=
  (by decide +kernel : ∀ t : Fin grid0.N, win0_8.index t 0 = 0 ∧ win0_8.index t 1 = 0)

/-- Window 8's block at a point, read at an index. -/
theorem r_blk (a : Fin 1) (p : Fin 64) :
    (iblk m c 8 t : FVec F S1x64 .f32) (ix2 a p) = (V m c main_v1 : FVec F S1x64 .f32) (ix2 a p) := by
  have hi := index8 t
  unfold iblk
  rw [View.read_apply]
  show V m c main_v1 _ = V m c main_v1 _
  refine congrArg (V m c main_v1) (funext fun e => Fin.ext ?_)
  match e with
  | ⟨0, _⟩ => show win0_8.index t 0 * 1 + 1 * a.val = a.val; rw [hi.1]; omega
  | ⟨1, _⟩ => show win0_8.index t 1 * 64 + 1 * p.val = p.val; rw [hi.2]; omega

/-- Where window 9's block sits. -/
theorem index9 : ∀ t : Fin cfg0.N, win0_9.index t 0 = t.val ∧ win0_9.index t 1 = 0 :=
  (by decide +kernel : ∀ t : Fin grid0.N, win0_9.index t 0 = t.val ∧ win0_9.index t 1 = 0)

/-- Where window 10's block sits. -/
theorem index10 : ∀ t : Fin cfg0.N, win0_10.index t 0 = t.val / 64 ∧ win0_10.index t 1 = 0 ∧ win0_10.index t 2 = 0 :=
  (by decide +kernel : ∀ t : Fin grid0.N, win0_10.index t 0 = t.val / 64 ∧ win0_10.index t 1 = 0 ∧ win0_10.index t 2 = 0)

/-- No two points write the same rows. -/
theorem rows_apart : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (Fin.ext (by
    have e : win0_9.index t 0 = win0_9.index t' 0 := congrFun h 0
    rw [(index9 t).1, (index9 t').1] at e
    exact e))

/-- The two points that write a core's sum back write different rows. -/
theorem sums_apart : ∀ t t' : Fin cfg0.N, (cfg0.win 10).flush t = true → (cfg0.win 10).flush t' = true → t ≠ t' →
    Disjoint ((cfg0.win 10).blk t).view.set ((cfg0.win 10).blk t').view.set :=
  fun t t' h h' hne => (cfg0.win 10).disjoint_blk fun he => hne (Fin.ext (by
    have e : win0_10.index t 0 = win0_10.index t' 0 := congrFun he 0
    rw [(index10 t).1, (index10 t').1] at e
    have a := (flush0_10 t).1 h
    have b := (flush0_10 t').1 h'
    omega))

/-- The output rows that point `t` leaves in its staging buffer. -/
theorem rows_after : (outsAt0 m c t.val t.isLt).1
    = Body.outBlk (iblk m c 0 t) (iblk m c 1 t) (iblk m c 2 t) (iblk m c 3 t) (iblk m c 4 t) (iblk m c 5 t) (iblk m c 7 t) (iblk m c 8 t) := by
  by_cases h0 : t.val % 64 = 0
  · rw [outsAt0_A m c t h0]; dsimp only; rw [Body.out_first]
  · rw [outsAt0_B m c t h0]; dsimp only; rw [Body.out_later]

/-- The first output array, read at an index: the block of the point that owns the row. -/
theorem rows_at (a : Fin 128) (p : Fin 64) :
    ((dats m 0 c).arrAt 9 cfg0.N : FVec F S16384x64 .f32) (ix2 ⟨t.val * 128 + a.val, by have := points_lt t; omega⟩ p)
      = (Body.outBlk (iblk m c 0 t) (iblk m c 1 t) (iblk m c 2 t) (iblk m c 3 t) (iblk m c 4 t) (iblk m c 5 t) (iblk m c 7 t) (iblk m c 8 t) : FVec F S128x64 .f32) (ix2 a p) := by
  have hi := index9 t
  have h := (dats m 0 c).arrAt_emb_eq_flushed 9 rows_apart t (flush0_9 t) (ix2 a p)
  have hf : (dats m 0 c).flushed 9 t = (cfg0.win 9).cut (grid0.coords t) ((outsAt0 m c t.val t.isLt).1) := by
    show (cfg0.win 9).cut (grid0.coords t) ((dats m 0 c).after 9 t) = _
    rw [after0_9]
  rw [hf, rows_after] at h
  refine Eq.trans (congrArg ((dats m 0 c).arrAt 9 cfg0.N) (funext fun e => Fin.ext ?_)) h
  match e with
  | ⟨0, _⟩ => show t.val * 128 + a.val = win0_9.index t 0 * 128 + 1 * a.val; rw [hi.1]; omega
  | ⟨1, _⟩ => show p.val = win0_9.index t 1 * 64 + 1 * p.val; rw [hi.2]; omega

/-- The second output array, read at an index: what the core's last point left. -/
theorem sums_at (ht : t.val % 64 = 63) (p : Fin 64) :
    ((dats m 0 c).arrAt 10 cfg0.N : FVec F S2x1x64 .f32) (ix3 ⟨t.val / 64, by have := points_lt t; omega⟩ 0 p)
      = ((outsAt0 m c t.val t.isLt).2 : FVec F S1x1x64 .f32) (ix3 0 0 p) := by
  have hi := index10 t
  have h := (dats m 0 c).arrAt_emb_eq_flushed 10 sums_apart t ((flush0_10 t).2 ht) (ix3 0 0 p)
  have hf : (dats m 0 c).flushed 10 t = (cfg0.win 10).cut (grid0.coords t) ((outsAt0 m c t.val t.isLt).2) := by
    show (cfg0.win 10).cut (grid0.coords t) ((dats m 0 c).after 10 t) = _
    rw [after0_10]
  rw [hf] at h
  refine Eq.trans (congrArg ((dats m 0 c).arrAt 10 cfg0.N) (funext fun e => Fin.ext ?_)) h
  match e with
  | ⟨0, _⟩ => show t.val / 64 = win0_10.index t 0 * 1 + 1 * 0; rw [hi.1]; omega
  | ⟨1, _⟩ => show 0 = win0_10.index t 1 * 1 + 1 * 0; rw [hi.2.1]
  | ⟨2, _⟩ => show p.val = win0_10.index t 2 * 64 + 1 * p.val; rw [hi.2.2]; omega

end Cert.KernelIdeal.Blocks

end
-- ==== Proof.Payload.lean ====
/-
  What one run of the kernel body computes at one index, in the extended reals.
-/
module

public import proofs.«01_k».proof.Proof.Body
public import Idealize.ShloMosaic.Lib.Pointwise

@[expose] public section

noncomputable section

namespace Cert.KernelIdeal.Payload

open Cert.KernelIdeal Cert.KernelIdeal.Gen Cert.KernelIdeal.Body Idealize.ShloMosaic Idealize.ShloMosaic.TcCoe Idealize.SL.Sem

/-- The constant added to each bin's mass. -/
def noise : EReal := Ideal.ofBits .f32 0x3089705f#32

/-- A bin's unnormalised weight, of the distribution at the bin edges and of the noise of each bin. -/
def mass (cdf : Fin 257 → EReal) (u : Fin 256 → EReal) (k : Fin 256) : EReal :=
  (cdf k.succ - cdf k.castSucc + noise) * Ideal.exp (u k)

/-- The out block at an index. -/
theorem outBlk_at (x0 : FVec Ideal S128x64 .f32) (x1 : FVec Ideal S8192x2 .f32) (x2 : FVec Ideal S128x64x256 .f32)
    (x3 : FVec Ideal S2x256 .f32) (x4 : FVec Ideal S256x128 .f32) (x5 x7 x8 : FVec Ideal S1x64 .f32) (a : Fin 128) (b : Fin 64)
    (X P0 P1 gd rd r : EReal) (u q0 q1 w0 w1 : Fin 256 → EReal) (cdf : Fin 257 → EReal)
    (h0 : x0 (ix2 a b) = X) (h10 : x1 (ix2 ⟨a.val * 64 + b.val, by omega⟩ 0) = P0)
    (h11 : x1 (ix2 ⟨a.val * 64 + b.val, by omega⟩ 1) = P1) (h2 : ∀ k, x2 (ix3 a b k) = u k)
    (h30 : ∀ k, x3 (ix2 0 k) = q0 k) (h31 : ∀ k, x3 (ix2 1 k) = q1 k) (h40 : ∀ k, x4 (ix2 k 0) = w0 k) (h41 : ∀ k, x4 (ix2 k 1) = w1 k)
    (h5 : x5 (ix2 0 b) = gd) (h7 : x7 (ix2 0 b) = rd) (h8 : x8 (ix2 0 b) = r)
    (hc : ∀ k : Fin 256, cdf k.castSucc = Ideal.div 1 (1 + FloatOps.exp2 (F := Ideal) (φ := .f32) (P0 * q0 k + P1 * q1 k)))
    (hl : cdf (Fin.last 256) = Ideal.div 1 (1 + FloatOps.exp2 (F := Ideal) (φ := .f32) (X * rd - gd))) :
    (outBlk (F := Ideal) x0 x1 x2 x3 x4 x5 x7 x8 : FVec Ideal S128x64 .f32) (ix2 a b)
      = Ideal.div (∑ k, mass cdf u k * w0 k) (∑ k, mass cdf u k * w1 k) * r := by
  have e0 : ∀ k : Fin 255, mass cdf u k.castSucc = (Ideal.div 1 (1 + FloatOps.exp2 (F := Ideal) (φ := .f32) (P0 * q0 ⟨1 + k.val, by omega⟩ + P1 * q1 ⟨1 + k.val, by omega⟩))
      - Ideal.div 1 (1 + FloatOps.exp2 (F := Ideal) (φ := .f32) (P0 * q0 ⟨k.val, by omega⟩ + P1 * q1 ⟨k.val, by omega⟩)) + noise) * Ideal.exp (u ⟨k.val, by omega⟩) := by
    intro k
    have es : k.castSucc.succ = (⟨1 + k.val, by omega⟩ : Fin 256).castSucc := Fin.ext (Nat.add_comm _ _)
    unfold mass
    rw [es, hc, hc]
    rfl
  have e1 : mass cdf u (Fin.last 255) = (Ideal.div 1 (1 + FloatOps.exp2 (F := Ideal) (φ := .f32) (X * rd - gd))
      - Ideal.div 1 (1 + FloatOps.exp2 (F := Ideal) (φ := .f32) (P0 * q0 255 + P1 * q1 255)) + noise) * Ideal.exp (u 255) := by
    have es : (Fin.last 255).succ = Fin.last 256 := rfl
    unfold mass
    rw [es, hl, hc]
    rfl
  rw [Fin.sum_univ_castSucc (n := 255) (fun k => mass cdf u k * w0 k), Fin.sum_univ_castSucc (n := 255) (fun k => mass cdf u k * w1 k)]
  simp only [e0, e1]
  subst h0 h10 h11 h5 h7 h8
  simp only [← h2, ← h30, ← h31, ← h40, ← h41]
  unfold noise
  pointwise [outBlk, k0_pay1, k0_pay5, k0_pay4]
  simp only [Fin.sum_univ_two, Fin.sum_univ_one]
  rfl

/-- The accumulator block at an index. -/
theorem accBlk_at (acc : FVec Ideal S1x1x64 .f32) (x0 : FVec Ideal S128x64 .f32) (x6 : FVec Ideal S1x64 .f32) (b : Fin 64)
    (s v : EReal) (f : Fin 128 → EReal) (hs : acc (ix3 0 0 b) = s) (h0 : ∀ a, x0 (ix2 a b) = f a) (h6 : x6 (ix2 0 b) = v) :
    (accBlk (F := Ideal) acc x0 x6 : FVec Ideal S1x1x64 .f32) (ix3 0 0 b)
      = s + ∑ a, FloatOps.absf (F := Ideal) (φ := .f32) (f a) * v := by
  subst hs h6
  simp only [← h0]
  pointwise [accBlk, k0_pay3, k0_pay4]

/-- The block a core's first point starts from. -/
theorem start_at (b : Fin 64) : ((k0_pay2 (F := Ideal)) : FVec Ideal S1x1x64 .f32) (ix3 0 0 b) = (0 : EReal) := by
  pointwise [k0_pay2]

end Cert.KernelIdeal.Payload

end
-- ==== Proof.Arrays.lean ====
/-
  The two arrays that the launch leaves, read at an index in terms of the arguments.
-/
module

public import proofs.«01_k».proof.Proof.Entry
public import proofs.«01_k».proof.Proof.Blocks
public import proofs.«01_k».proof.Proof.Payload

@[expose] public section

noncomputable section

namespace Cert.KernelIdeal.Entry

open Cert.KernelIdeal Cert.KernelIdeal.Gen Idealize.ShloMosaic Idealize.ShloMosaic.TcCoe Idealize.SL.Sem
open Cert.KernelIdeal.Payload (mass noise)

variable {m : (ℓ : Loc nD τ sig) → Buf (Elt Ideal) ℓ} {c : Dev nD} (A : Args m c)

/-- The input by row and column of the joined axes. -/
def Args.xrow (n : Fin 16384) (p : Fin 64) : EReal :=
  A.x ⟨n.val / 1024, by omega⟩ ⟨n.val % 1024, by omega⟩ ⟨p.val / 8, by omega⟩ ⟨p.val % 8, by omega⟩

/-- The noise likewise. -/
def Args.urow (n : Fin 16384) (p : Fin 64) (k : Fin 256) : EReal :=
  A.u ⟨n.val / 1024, by omega⟩ ⟨n.val % 1024, by omega⟩ ⟨p.val / 8, by omega⟩ ⟨p.val % 8, by omega⟩ k

/-- The selected row of the resizing table. -/
def Args.r (p : Fin 64) : EReal := A.rz A.i ⟨p.val / 8, by omega⟩ ⟨p.val % 8, by omega⟩

/-- The distribution function at each edge, as the kernel computes it from an input `x` and a scale `r`. -/
def Args.cdf (x r : EReal) (k : Fin 257) : EReal :=
  Ideal.div 1 (1 + FloatOps.exp2 (F := Ideal) (φ := .f32) (x * Ideal.div lg (r * A.dv 0 0) - A.g k * Ideal.div lg (A.dv 0 0)))

/-- One output element, of its input, scale and noise. -/
def Args.out (x r : EReal) (u : Fin 256 → EReal) : EReal :=
  Ideal.div (∑ k : Fin 256, mass (A.cdf x r) u k * A.g k.castSucc) (∑ k : Fin 256, mass (A.cdf x r) u k * 1) * r

/-- The first array: one output element per row and column. -/
theorem rows_out (n : Fin 16384) (p : Fin 64) :
    ((dats m 0 c).arrAt 9 cfg0.N : FVec Ideal S16384x64 .f32) (ix2 n p) = A.out (A.xrow n p) (A.r p) (A.urow n p) := by
  have hN : cfg0.N = 128 := N_0
  have hn : n = (⟨n.val / 128 * 128 + (⟨n.val % 128, by omega⟩ : Fin 128).val, by dsimp only; omega⟩ : Fin 16384) :=
    Fin.ext (by dsimp only; omega)
  have hrow := Blocks.rows_at m c ⟨n.val / 128, by omega⟩ ⟨n.val % 128, by omega⟩ p
  refine Eq.trans (congrArg (fun n => ((dats m 0 c).arrAt 9 cfg0.N : FVec Ideal S16384x64 .f32) (ix2 n p)) hn) (hrow.trans ?_)
  refine (Payload.outBlk_at _ _ _ _ _ _ _ _ _ _ (A.xrow n p) (A.xrow n p * Ideal.div lg (A.r p * A.dv 0 0)) 1
    (A.g 256 * Ideal.div lg (A.dv 0 0)) (Ideal.div lg (A.r p * A.dv 0 0)) (A.r p) (A.urow n p) (fun _ => 1)
    (fun k => -(A.g k.castSucc * Ideal.div lg (A.dv 0 0))) (fun k => A.g k.castSucc) (fun _ => 1) (A.cdf (A.xrow n p) (A.r p))
    ?_ ?_ ?_ ?_ ?_ ?_ ?_ ?_ ?_ ?_ ?_ ?_ ?_).trans rfl
  · rw [Blocks.inp_blk, ← hn]; exact inp_at m c A n p
  · rw [Blocks.acol_blk, acol_at_zero m c A]
    unfold Args.xrow Args.r
    refine congrArg₂ (· * ·) ?_ (congrArg (Ideal.div lg) (congrArg (· * A.dv 0 0) ?_))
    · congr 1 <;> refine Fin.ext ?_ <;> dsimp only <;> omega
    · congr 1 <;> refine Fin.ext ?_ <;> dsimp only <;> omega
  · rw [Blocks.acol_blk]; exact acol_at_one m c _
  · intro k; rw [Blocks.u_blk, ← hn]; exact u_at m c A n p k
  · intro k; rw [Blocks.bmat_blk]; exact bmat_at_zero m c k
  · intro k; rw [Blocks.bmat_blk]; exact bmat_at_one m c A k
  · intro k; rw [Blocks.w_blk]; exact w_at_zero m c A k
  · intro k; rw [Blocks.w_blk]; exact w_at_one m c k
  · rw [Blocks.gdl_blk]; exact gdl_at m c A p
  · rw [Blocks.invrd_blk]; exact invrd_at m c A p
  · rw [Blocks.r_blk]; exact r_at m c A p
  · intro k; unfold Args.cdf; rw [mul_one, one_mul, ← sub_eq_add_neg]
  · rfl

/-- What one point adds to its core's sum. -/
def Args.part (p : Fin 64) (t : ℕ) : EReal :=
  if h : t < 128 then ∑ a : Fin 128, FloatOps.absf (F := Ideal) (φ := .f32) (A.xrow ⟨t * 128 + a.val, by omega⟩ p) * Ideal.div 1 (A.r p) else 0

/-- What one point adds, of its blocks. -/
theorem part_add (t : Fin cfg0.N) (p : Fin 64) (acc : FVec Ideal S1x1x64 .f32) (s : EReal) (hs : acc (ix3 0 0 p) = s) :
    (Body.accBlk (F := Ideal) acc (iblk m c 0 t) (iblk m c 6 t) : FVec Ideal S1x1x64 .f32) (ix3 0 0 p) = s + A.part p t.val := by
  have ht := Blocks.points_lt t
  refine (Payload.accBlk_at _ _ _ p s (Ideal.div 1 (A.r p)) (fun a => A.xrow ⟨t.val * 128 + a.val, by omega⟩ p) hs ?_ ?_).trans ?_
  · intro a; rw [Blocks.inp_blk]; exact inp_at m c A _ p
  · rw [Blocks.invr_blk]; exact invr_at m c A p
  · unfold Args.part; rw [dif_pos ht]

/-- The running sum a core's staging buffer holds after a point. -/
theorem sum_after (p : Fin 64) : ∀ (n : ℕ) (h : n < cfg0.N),
    ((outsAt0 m c n h).2 : FVec Ideal S1x1x64 .f32) (ix3 0 0 p) = ∑ j ∈ Finset.range (n % 64 + 1), A.part p (n / 64 * 64 + j)
  | 0, h => by
    have e := outsAt0_A m c ⟨0, h⟩ rfl
    rw [show outsAt0 m c 0 h = outsAt0 m c (⟨0, h⟩ : Fin cfg0.N).val (⟨0, h⟩ : Fin cfg0.N).isLt from rfl, e]
    dsimp only
    rw [Body.acc_first]
    refine (part_add A ⟨0, h⟩ p _ 0 (Payload.start_at p)).trans ?_
    rw [zero_add, Nat.zero_mod, Finset.sum_range_one]
  | n + 1, h => by
    by_cases h0 : (n + 1) % 64 = 0
    · have e := outsAt0_A m c ⟨n + 1, h⟩ h0
      rw [show outsAt0 m c (n + 1) h = outsAt0 m c (⟨n + 1, h⟩ : Fin cfg0.N).val (⟨n + 1, h⟩ : Fin cfg0.N).isLt from rfl, e]
      dsimp only
      rw [Body.acc_first]
      refine (part_add A ⟨n + 1, h⟩ p _ 0 (Payload.start_at p)).trans ?_
      rw [zero_add, h0, Finset.sum_range_one]
      exact congrArg (A.part p) (by dsimp only; omega)
    · have e := outsAt0_B m c ⟨n + 1, h⟩ h0
      rw [show outsAt0 m c (n + 1) h = outsAt0 m c (⟨n + 1, h⟩ : Fin cfg0.N).val (⟨n + 1, h⟩ : Fin cfg0.N).isLt from rfl, e]
      dsimp only
      rw [Body.acc_later]
      refine (part_add A ⟨n + 1, h⟩ p _ _ (sum_after p n (Nat.lt_of_succ_lt h))).trans ?_
      have h1 : (n + 1) % 64 = n % 64 + 1 := by omega
      have h2 : (n + 1) / 64 = n / 64 := by omega
      rw [h1, h2, Finset.sum_range_succ _ (n % 64 + 1)]
      exact congrArg (_ + A.part p ·) (by dsimp only; omega)

/-- The second array: each core's sum over its points. -/
theorem sums_out (d : Fin 2) (p : Fin 64) :
    ((dats m 0 c).arrAt 10 cfg0.N : FVec Ideal S2x1x64 .f32) (ix3 d 0 p) = ∑ j ∈ Finset.range 64, A.part p (d.val * 64 + j) := by
  have hN : cfg0.N = 128 := N_0
  have ht : d.val * 64 + 63 < cfg0.N := by omega
  have hd : d = (⟨(d.val * 64 + 63) / 64, by omega⟩ : Fin 2) := Fin.ext (by dsimp only; omega)
  have h := Blocks.sums_at m c ⟨d.val * 64 + 63, ht⟩ (by dsimp only; omega) p
  refine Eq.trans (congrArg (fun d => ((dats m 0 c).arrAt 10 cfg0.N : FVec Ideal S2x1x64 .f32) (ix3 d 0 p)) hd) (h.trans ?_)
  rw [sum_after A p]
  dsimp only
  rw [show (d.val * 64 + 63) % 64 + 1 = 64 from by omega, show (d.val * 64 + 63) / 64 = d.val from by omega]

end Cert.KernelIdeal.Entry

end
-- ==== Proof.KernelRun.lean ====
/-
  The whole run of the kernel program: what its three results hold, by index, and that its arguments are unchanged.
-/
module

public import proofs.«01_k».proof.Proof.Arrays

@[expose] public section

noncomputable section

namespace Cert.KernelIdeal.Entry

open Cert.KernelIdeal Cert.KernelIdeal.Gen Idealize.ShloMosaic Idealize.ShloMosaic.TcCoe Idealize.SL.Sem

variable (m : (ℓ : Loc nD τ sig) → Buf (Elt Ideal) ℓ) (c : Dev nD) (A : Args m c)

/-- The buffers the host operations after the launch start from. -/
def left (m : (ℓ : Loc nD τ sig) → Buf (Elt Ideal) ℓ) (c : Dev nD) : Valuation τ sig (Elt Ideal) :=
  Pipeline.withArrays spec0 c (V0 m c) fun w => (dats m 0 c).arrAt w cfg0.N

/-- The windows' arrays are different buffers. -/
theorem arrays_apart : Function.Injective (Pipeline.arrRef spec0) := by decide

/-- The first array, as those operations find it. -/
theorem left_rows : left m c (Proc.devRef .tc main_v60_0) = (dats m 0 c).arrAt 9 cfg0.N :=
  Pipeline.withArrays_arr spec0 arrays_apart c (V0 m c) (fun w => (dats m 0 c).arrAt w cfg0.N) 9

/-- The second array, as those operations find it. -/
theorem left_sums : left m c (Proc.devRef .tc main_v60_1) = (dats m 0 c).arrAt 10 cfg0.N :=
  Pipeline.withArrays_arr spec0 arrays_apart c (V0 m c) (fun w => (dats m 0 c).arrAt w cfg0.N) 10

/-- A buffer after the host operations that follow the launch. -/
def last (m : (ℓ : Loc nD τ sig) → Buf (Elt Ideal) ℓ) (c : Dev nD) (b : Ref sig .tc) :=
  StableHlo.after hostOps1 (left m c) (Proc.devRef .tc b)

/-- The first result: the first array, its axes parted again. -/
theorem first_at (W : Valuation τ sig (Elt Ideal)) (a : Fin 16) (n : Fin 1024) (p q : Fin 8) :
    (StableHlo.after hostOps1 W (Proc.devRef .tc main_v61) : FVec Ideal S16x1x1024x8x8 .f32) (ix5 a 0 n p q)
      = (W (Proc.devRef .tc main_v60_0) : FVec Ideal S16384x64 .f32) (ix2 ⟨a.val * 1024 + n.val, by omega⟩ ⟨p.val * 8 + q.val, by omega⟩) := by
  after_reads_at

/-- The sum of the two cores' rows. -/
theorem core_sum (x : S2x1x64.Idx → EReal) (b : Fin 64) :
    Ideal.hostReduceAdd reducesTo_S2x1x64_S64_d0_1 x 0 (ix1 b) = ∑ d : Fin 2, x (ix3 d 0 b) := by
  unfold Ideal.hostReduceAdd
  rw [zero_add]
  refine Finset.sum_filter_eq_sum_of_fiber _ (fun d : Fin 2 => (ix3 d 0 b : S2x1x64.Idx))
    (fun _ _ e => congrFun e 0) (fun i => ?_) x
  constructor
  · intro e
    refine ⟨i 0, ?_⟩
    funext a; apply Fin.ext
    match a with
    | ⟨0, _⟩ => rfl
    | ⟨1, _⟩ => exact (Nat.lt_one_iff.1 (i 1).isLt).symm
    | ⟨2, _⟩ => exact (congrArg Fin.val (congrFun e 0)).symm
  · rintro ⟨d, rfl⟩
    funext a
    obtain rfl : a = 0 := Subsingleton.elim _ _
    rfl

/-- The second result: the two cores' sums added and divided by the number of rows. -/
theorem second_at (W : Valuation τ sig (Elt Ideal)) (p q : Fin 8) (f : Fin 2 → EReal)
    (hf : ∀ d, (W (Proc.devRef .tc main_v60_1) : FVec Ideal S2x1x64 .f32) (ix3 d 0 ⟨p.val * 8 + q.val, by omega⟩) = f d) :
    (StableHlo.after hostOps1 W (Proc.devRef .tc main_v65) : FVec Ideal S8x8 .f32) (ix2 p q)
      = Ideal.div (∑ d, f d) (Ideal.ofBits .f32 0x46800000#32) := by
  simp only [← hf]
  after_reads_at
  rw [core_sum]

/-- The third result: zero. -/
theorem third_eq (W : Valuation τ sig (Elt Ideal)) :
    StableHlo.after hostOps1 W (Proc.devRef .tc main_cst_9) = constant (F := Ideal) S_ .f32 0x00000000#32 := by
  after_reads_simp

/-- Every run ends with the three results as the host operations after the launch leave them and the arguments as
    they were. -/
theorem run (ρ : Dev nD → PrngReg) : θ_run defs (onTc (τ := τ) (main (F := Ideal))) ⟨m, fun _ => 0, ρ⟩ (fun r => ∀ c : Dev nD,
      r.2.mem ((c.tc : Thread nD τ).loc main_v61) = last m c main_v61
      ∧ r.2.mem ((c.tc : Thread nD τ).loc main_v65) = last m c main_v65
      ∧ r.2.mem ((c.tc : Thread nD τ).loc main_cst_9) = last m c main_cst_9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h.1 c).2 main_v61 (Pipeline.mem_restRefs_of main_v61 (by decide) (by decide)),
        (h.1 c).2 main_v65 (Pipeline.mem_restRefs_of main_v65 (by decide) (by decide)),
        (h.1 c).2 main_cst_9 (Pipeline.mem_restRefs_of main_cst_9 (by decide) (by decide)),
        h.2 c⟩)
    (θ_run_and (run_main m ρ) (unchanged m ρ))

/-- The first result at an index. -/
theorem last_first (a : Fin 16) (n : Fin 1024) (p q : Fin 8) :
    (last m c main_v61 : FVec Ideal S16x1x1024x8x8 .f32) (ix5 a 0 n p q)
      = A.out (A.x a n p q) (A.rz A.i p q) (A.u a n p q) := by
  unfold last
  rw [first_at, left_rows, rows_out A]
  have e0 : ∀ h, (⟨(a.val * 1024 + n.val) / 1024, h⟩ : Fin 16) = a := fun h => Fin.ext (by dsimp only; omega)
  have e1 : ∀ h, (⟨(a.val * 1024 + n.val) % 1024, h⟩ : Fin 1024) = n := fun h => Fin.ext (by dsimp only; omega)
  have e2 : ∀ h, (⟨(p.val * 8 + q.val) / 8, h⟩ : Fin 8) = p := fun h => Fin.ext (by dsimp only; omega)
  have e3 : ∀ h, (⟨(p.val * 8 + q.val) % 8, h⟩ : Fin 8) = q := fun h => Fin.ext (by dsimp only; omega)
  unfold Args.xrow Args.r Args.urow
  dsimp only
  simp only [e0, e1, e2, e3]

/-- The second result at an index. -/
theorem last_second (p q : Fin 8) :
    (last m c main_v65 : FVec Ideal S8x8 .f32) (ix2 p q)
      = Ideal.div (∑ d : Fin 2, ∑ j ∈ Finset.range 64, A.part ⟨p.val * 8 + q.val, by omega⟩ (d.val * 64 + j)) (Ideal.ofBits .f32 0x46800000#32) := by
  unfold last
  exact second_at _ p q _ fun d => by rw [left_sums]; exact sums_out A d _

end Cert.KernelIdeal.Entry

end
-- ==== Proof.Scalar.lean ====
/-
  The mathematics of one output element: the logistic distribution at the bin edges computed with powers of two and with
  exponentials, and the weighted mean of the edges with the common factor of the weights kept or divided out.
-/
module

public import Idealize.ShloMosaic.Lib.Pointwise
public import Mathlib.Analysis.SpecialFunctions.Pow.Real

@[expose] public section

noncomputable section

namespace Cert.Scalar

open Idealize.ShloMosaic

/-- A sum of reals, in the extended reals. -/
theorem coe_sum {n : ℕ} (f : Fin n → ℝ) : (∑ k, (f k : EReal)) = ((∑ k, f k : ℝ) : EReal) := by
  induction n with
  | zero => simp
  | succ n ih => rw [Fin.sum_univ_castSucc, Fin.sum_univ_castSucc, ih, EReal.coe_add]

/-- A quotient of reals. -/
theorem div_real (x : ℝ) {y : ℝ} (h : y ≠ 0) : Ideal.div (x : EReal) (y : EReal) = ((x / y : ℝ) : EReal) := by
  rw [Ideal.div_coe h, ← EReal.coe_mul, mul_one_div]

/-- The word of a positive normal number is a positive real. -/
theorem noise_real : ∃ w : ℝ, 0 < w ∧ Ideal.ofBits .f32 0x3089705F#32 = (w : EReal) := by
  refine ⟨_, ?_, (by simp [Ideal.ofBits, Ideal.ieee]; rfl)⟩
  positivity

/-- Likewise for the constant of the denominator. -/
theorem noise_sum_real : ∃ w : ℝ, 0 < w ∧ Ideal.ofBits .f32 0x3489705F#32 = (w : EReal) := by
  refine ⟨_, ?_, (by simp [Ideal.ofBits, Ideal.ieee]; rfl)⟩
  positivity

/-- The word of two. -/
theorem two_word : Ideal.ofBits .f32 0x40000000#32 = ((2 : ℝ) : EReal) := by
  simp [Ideal.ofBits, Ideal.ieee, ← EReal.coe_mul]
  norm_num

/-- The base-two logarithm of Euler's number, as one over the natural logarithm of two. -/
theorem lg_real : Ideal.div 1 (Ideal.log (Ideal.ofBits .f32 0x40000000#32)) = ((1 / Real.log 2 : ℝ) : EReal) := by
  have h : Real.log 2 ≠ 0 := (Real.log_pos (by norm_num)).ne'
  rw [two_word]
  have e : Ideal.log ((2 : ℝ) : EReal) = ((Real.log 2 : ℝ) : EReal) := by
    show (if (2 : ℝ) ≤ 0 then (⊥ : EReal) else ((Real.log 2 : ℝ) : EReal)) = _
    rw [if_neg (by norm_num)]
  rw [e, ← EReal.coe_one, div_real 1 h]

/-- The logistic distribution of mean `x / r` and scale `d` at `g`, the mean an extended real. -/
def logistic (x : EReal) (r d g : ℝ) : ℝ :=
  match x with
  | ⊤ => 0
  | ⊥ => 1
  | (y : ℝ) => 1 / (1 + Real.exp ((y / r - g) / d))

/-- It does not decrease in `g`. -/
theorem logistic_mono (x : EReal) {r d g g' : ℝ} (hd : 0 < d) (h : g ≤ g') : logistic x r d g ≤ logistic x r d g' := by
  induction x with
  | bot => exact le_refl (1 : ℝ)
  | top => exact le_refl (0 : ℝ)
  | coe y =>
    show 1 / (1 + Real.exp ((y / r - g) / d)) ≤ 1 / (1 + Real.exp ((y / r - g') / d))
    have := Real.exp_pos ((y / r - g') / d)
    refine one_div_le_one_div_of_le (by linarith) (add_le_add le_rfl (Real.exp_le_exp.2 ?_))
    gcongr

/-- One over one plus an exponential, at the three kinds of exponent. -/
theorem inv_top : Ideal.div 1 (1 + (⊤ : EReal)) = ((0 : ℝ) : EReal) := by
  have e : (1 : EReal) + ⊤ = ⊤ := EReal.add_top_of_ne_bot (by decide)
  rw [e]
  unfold Ideal.div
  rw [if_neg (by decide), EReal.inv_top, mul_zero, EReal.coe_zero]

theorem inv_zero : Ideal.div 1 (1 + (0 : EReal)) = ((1 : ℝ) : EReal) := by
  rw [add_zero, ← EReal.coe_one, div_real 1 one_ne_zero, div_one]

theorem inv_coe (y : ℝ) (h : 0 < y) : Ideal.div 1 (1 + (y : EReal)) = ((1 / (1 + y) : ℝ) : EReal) := by
  rw [← EReal.coe_one, ← EReal.coe_add, div_real 1 (by linarith)]

/-- The distribution with exponentials. -/
theorem cdf_exp (x : EReal) {r d : ℝ} (g : ℝ) (hr : 0 < r) (hd : 0 < d) :
    Ideal.div 1 (1 + Ideal.exp (-Ideal.div (-(Ideal.div x (r : EReal) - (g : EReal))) (d : EReal))) = (logistic x r d g : EReal) := by
  have hr' : (0 : ℝ) < 1 / r := by positivity
  have hd' : (0 : ℝ) < 1 / d := by positivity
  rw [Ideal.div_coe hr.ne', Ideal.div_coe hd.ne']
  induction x with
  | bot =>
    rw [EReal.bot_mul_coe_of_pos hr', sub_eq_add_neg, EReal.bot_add, EReal.neg_bot, EReal.top_mul_coe_of_pos hd', EReal.neg_top]
    exact inv_zero
  | top =>
    rw [EReal.top_mul_coe_of_pos hr', EReal.top_sub_coe, EReal.neg_top, EReal.bot_mul_coe_of_pos hd', EReal.neg_bot]
    exact inv_top
  | coe y =>
    have e : -(-((y : EReal) * ((1 / r : ℝ) : EReal) - (g : EReal)) * ((1 / d : ℝ) : EReal)) = (((y / r - g) / d : ℝ) : EReal) := by
      rw [← EReal.coe_mul, ← EReal.coe_sub, ← EReal.coe_neg, ← EReal.coe_mul, ← EReal.coe_neg]
      congr 1
      field_simp
    rw [e]
    exact inv_coe _ (Real.exp_pos _)

/-- The distribution with powers of two. -/
theorem cdf_exp2 (x : EReal) {r d : ℝ} (g : ℝ) (hr : 0 < r) (hd : 0 < d) :
    Ideal.div 1 (1 + Ideal.exp2 (x * Ideal.div ((1 / Real.log 2 : ℝ) : EReal) ((r : EReal) * (d : EReal))
        - (g : EReal) * Ideal.div ((1 / Real.log 2 : ℝ) : EReal) (d : EReal))) = (logistic x r d g : EReal) := by
  have hl : 0 < Real.log 2 := Real.log_pos (by norm_num)
  have hrd : 0 < r * d := by positivity
  have hp : (0 : ℝ) < 1 / Real.log 2 / (r * d) := by positivity
  rw [← EReal.coe_mul, div_real _ hrd.ne', div_real _ hd.ne', ← EReal.coe_mul]
  induction x with
  | bot =>
    rw [EReal.bot_mul_coe_of_pos hp, sub_eq_add_neg, EReal.bot_add]
    exact inv_zero
  | top =>
    rw [EReal.top_mul_coe_of_pos hp, EReal.top_sub_coe]
    exact inv_top
  | coe y =>
    rw [← EReal.coe_mul, ← EReal.coe_sub]
    have e : Real.rpow 2 (y * (1 / Real.log 2 / (r * d)) - g * (1 / Real.log 2 / d)) = Real.exp ((y / r - g) / d) := by
      show (2 : ℝ) ^ (_ : ℝ) = _
      rw [Real.rpow_def_of_pos (by norm_num)]
      congr 1
      field_simp
    show Ideal.div 1 (1 + ((Real.rpow 2 _ : ℝ) : EReal)) = ((1 / (1 + Real.exp ((y / r - g) / d)) : ℝ) : EReal)
    rw [e]
    exact inv_coe _ (Real.exp_pos _)

/-- The absolute value of a quotient by a positive real. -/
theorem abs_div (x : EReal) {r : ℝ} (hr : 0 < r) :
    max (Ideal.div x (r : EReal)) (-Ideal.div x (r : EReal)) = max x (-x) * Ideal.div 1 (r : EReal) := by
  have hr' : (0 : ℝ) < 1 / r := by positivity
  rw [Ideal.div_coe hr.ne', Ideal.div_coe hr.ne', one_mul]
  induction x with
  | bot => rw [EReal.bot_mul_coe_of_pos hr', EReal.neg_bot, max_eq_right bot_le, EReal.top_mul_coe_of_pos hr']
  | top => rw [EReal.top_mul_coe_of_pos hr', EReal.neg_top, max_eq_left bot_le, EReal.top_mul_coe_of_pos hr']
  | coe y =>
    rw [← EReal.coe_mul, ← EReal.coe_neg, ← EReal.coe_neg, ← EReal.coe_strictMono.monotone.map_max, ← EReal.coe_strictMono.monotone.map_max, ← EReal.coe_mul]
    congr 1
    rw [max_mul_of_nonneg _ _ hr'.le, neg_mul]

/-- A weight as the reference computes it: the mass over the total, times the exponential of the noise. -/
theorem weight_real {t D : ℝ} (ht : 0 < t) (hD : 0 < D) (u : ℝ) :
    Ideal.exp (Ideal.div (Ideal.log (Ideal.div (t : EReal) (D : EReal)) + (u : EReal)) 1) = ((t * Real.exp u / D : ℝ) : EReal) := by
  have hq : 0 < t / D := by positivity
  rw [div_real _ hD.ne']
  have e : Ideal.log ((t / D : ℝ) : EReal) = ((Real.log (t / D) : ℝ) : EReal) := by
    show (if t / D ≤ 0 then (⊥ : EReal) else ((Real.log (t / D) : ℝ) : EReal)) = _
    rw [if_neg (not_le.2 hq)]
  rw [e, ← EReal.coe_add, ← EReal.coe_one, div_real _ one_ne_zero, div_one]
  show ((Real.exp (Real.log (t / D) + u) : ℝ) : EReal) = _
  rw [Real.exp_add, Real.exp_log hq, div_mul_eq_mul_div]

/-- The weighted mean of the edges: dividing every weight by a common positive factor, and each by their sum before
    summing, changes nothing. -/
theorem mean_eq {n : ℕ} (t g : Fin (n + 1) → ℝ) (D r : ℝ) (ht : ∀ k, 0 < t k) (hD : 0 < D) :
    Ideal.div (∑ k, (t k : EReal) * (g k : EReal)) (∑ k, (t k : EReal) * 1) * (r : EReal)
      = (∑ k, Ideal.div ((t k / D : ℝ) : EReal) (∑ l, ((t l / D : ℝ) : EReal)) * (g k : EReal)) * (r : EReal) := by
  have hT : 0 < ∑ k, t k := Finset.sum_pos (fun k _ => ht k) Finset.univ_nonempty
  have hS : ∑ k, t k / D = (∑ k, t k) / D := (Finset.sum_div _ _ _).symm
  have hS0 : 0 < (∑ k, t k) / D := by positivity
  simp only [mul_one, ← EReal.coe_mul]
  rw [coe_sum, coe_sum, coe_sum, hS, div_real _ hT.ne']
  simp only [div_real _ hS0.ne', ← EReal.coe_mul]
  rw [coe_sum]
  congr 2
  rw [Finset.sum_div]
  refine Finset.sum_congr rfl fun k _ => ?_
  field_simp

/-- A sum over a product of two ranges, taken block by block. -/
theorem sum_blocks (F : ℕ → EReal) (n : ℕ) : ∀ m : ℕ,
    ∑ k ∈ Finset.range (m * n), F k = ∑ i ∈ Finset.range m, ∑ j ∈ Finset.range n, F (i * n + j)
  | 0 => by simp
  | m + 1 => by rw [Nat.succ_mul, Finset.sum_range_add, sum_blocks F n m, Finset.sum_range_succ]

end Cert.Scalar

end
-- ==== Proof.Equation.lean ====
/-
  The two programs' formulas are one: under what the precondition says of the arguments, each output element and each
  mean of the kernel is the reference's.
-/
module

public import proofs.«01_k».proof.Proof.KernelRun
public import proofs.«01_k».proof.Proof.RefRun
public import proofs.«01_k».proof.Proof.Scalar

@[expose] public section

noncomputable section

namespace Cert.Equation

open Idealize.ShloMosaic Idealize.ShloMosaic.TcCoe Idealize.SL.Sem
open Cert.KernelIdeal Cert.KernelIdeal.Gen Cert.KernelIdeal.Entry Cert.KernelIdeal.Payload Cert.Scalar
open Cert.ReferenceIdeal (Stages.cdf Stages.weight Stages.out)

/-- What the precondition says of the arguments, as real numbers. -/
structure Plain {m : (ℓ : Loc nD τ sig) → Buf (Elt Ideal) ℓ} {c : Dev nD} (A : Args m c) : Prop where
  rz : ∀ k p q, ∃ r : ℝ, 0 < r ∧ A.rz k p q = r
  al : ∃ a : ℝ, 0 ≤ a ∧ ∀ p q, A.al p q = a
  be : ∃ b : ℝ, ∀ p q, A.be p q = b
  dv : ∃ d : ℝ, 0 < d ∧ ∀ p q, A.dv p q = d
  gb : ∃ g : Fin 257 → ℝ, Monotone g ∧ ∀ p q k, A.gb p q k = g k
  u : ∀ a n p q, ∃ v : Fin 256 → ℝ, ∀ k, A.u a n p q k = v k

variable {m : (ℓ : Loc nD τ sig) → Buf (Elt Ideal) ℓ} {c : Dev nD} (A : Args m c)

/-- The kernel's distribution function at an edge, on the reals. -/
theorem cdf_kernel (x : EReal) {r d : ℝ} (hr : 0 < r) (hd : 0 < d) (G : Fin 257 → ℝ) (hA : A.dv 0 0 = d) (hG : ∀ k, A.g k = G k)
    (k : Fin 257) : A.cdf x r k = (logistic x r d (G k) : EReal) := by
  unfold Args.cdf lg
  rw [lg_real, hA, hG]
  exact cdf_exp2 x (G k) hr hd

/-- A bin's weight before the common factor. -/
def top (f : Fin 257 → ℝ) (w : ℝ) (v : Fin 256 → ℝ) (k : Fin 256) : ℝ := (f k.succ - f k.castSucc + w) * Real.exp (v k)

/-- It is the kernel's. -/
theorem mass_real (F : Fin 257 → EReal) (f : Fin 257 → ℝ) (hF : ∀ k, F k = f k) (U : Fin 256 → EReal) (v : Fin 256 → ℝ)
    (hU : ∀ k, U k = v k) (w : ℝ) (hw : noise = w) (k : Fin 256) : mass F U k = (top f w v k : EReal) := by
  unfold mass top
  rw [hF, hF, hU, hw, ← EReal.coe_sub, ← EReal.coe_add]
  show _ * ((Real.exp (v k) : ℝ) : EReal) = _
  rw [← EReal.coe_mul]

/-- The reference's weight is the same over a common factor. -/
theorem weight_eq (F : Fin 257 → EReal) (f : Fin 257 → ℝ) (hF : ∀ k, F k = f k) (hf : Monotone f) (U : Fin 256 → EReal)
    (v : Fin 256 → ℝ) (hU : ∀ k, U k = v k) (w w' : ℝ) (hw0 : 0 < w) (hw0' : 0 < w') (hw : Ideal.ofBits .f32 0x3089705F#32 = (w : EReal))
    (hw' : Ideal.ofBits .f32 0x3489705F#32 = (w' : EReal)) (k : Fin 256) :
    Stages.weight F U k = ((top f w v k / (f 256 - f 0 + w') : ℝ) : EReal) := by
  unfold Stages.weight top
  have e1 : (⟨1 + k.val, by omega⟩ : Fin 257) = k.succ := Fin.ext (Nat.add_comm _ _)
  have e2 : (⟨k.val, by omega⟩ : Fin 257) = k.castSucc := rfl
  have h1 := hf (Fin.castSucc_lt_succ (i := k)).le
  have h2 := hf (Fin.zero_le (256 : Fin 257))
  rw [e1, e2, hF, hF, hF, hF, hU, hw, hw', ← EReal.coe_sub, ← EReal.coe_add, ← EReal.coe_sub, ← EReal.coe_add]
  exact weight_real (by linarith) (by linarith) (v k)

/-- The two quotients, of any distribution function that does not decrease. -/
theorem quotient_eq (F F' : Fin 257 → EReal) (f : Fin 257 → ℝ) (hF : ∀ k, F k = f k) (hF' : ∀ k, F' k = f k) (hf : Monotone f)
    (U : Fin 256 → EReal) (v : Fin 256 → ℝ) (hU : ∀ k, U k = v k) (E E' : Fin 256 → EReal) (g : Fin 256 → ℝ)
    (hE : ∀ k, E k = g k) (hE' : ∀ k, E' k = g k) (r : ℝ) :
    Ideal.div (∑ k : Fin 256, mass F U k * E k) (∑ k : Fin 256, mass F U k * 1) * (r : EReal)
      = (∑ k : Fin 256, Ideal.div (Stages.weight F' U k) (∑ l : Fin 256, Stages.weight F' U l) * E' k) * (r : EReal) := by
  obtain ⟨w, hw, ew⟩ := noise_real
  obtain ⟨w', hw', ew'⟩ := noise_sum_real
  have ht : ∀ k, 0 < top f w v k := fun k => by
    have h1 := hf (Fin.castSucc_lt_succ (i := k)).le
    unfold top
    exact mul_pos (by linarith) (Real.exp_pos (v k))
  have hD : 0 < f 256 - f 0 + w' := by
    have h2 := hf (Fin.zero_le (256 : Fin 257))
    linarith
  simp only [mass_real F f hF U v hU w ew, weight_eq F' f hF' hf U v hU w w' hw hw' ew ew', hE, hE']
  exact mean_eq (n := 255) (top f w v) g (f 256 - f 0 + w') r ht hD

/-- One output element. -/
theorem out_eq (H : Plain A) (a : Fin 16) (n : Fin 1024) (p q : Fin 8) :
    A.out (A.x a n p q) (A.rz A.i p q) (A.u a n p q)
      = Stages.out (A.x a n p q) (A.rz A.i p q) (A.dv p q) (fun k => A.gb p q k * A.al p q + A.be p q) (A.u a n p q) := by
  obtain ⟨r, hr, er⟩ := H.rz A.i p q
  obtain ⟨al, hal, eal⟩ := H.al
  obtain ⟨be, ebe⟩ := H.be
  obtain ⟨d, hd, ed⟩ := H.dv
  obtain ⟨g, hg, eg⟩ := H.gb
  obtain ⟨v, ev⟩ := H.u a n p q
  have hG' : ∀ p q k, A.gb p q k * A.al p q + A.be p q = ((g k * al + be : ℝ) : EReal) := fun p q k => by
    rw [eg, eal, ebe, ← EReal.coe_mul, ← EReal.coe_add]
  have hG : ∀ k, A.g k = ((g k * al + be : ℝ) : EReal) := hG' 0 0
  have hf : Monotone fun k => logistic (A.x a n p q) r d (g k * al + be) := fun i j h =>
    logistic_mono _ hd (add_le_add (mul_le_mul_of_nonneg_right (hg h) hal) le_rfl)
  unfold Args.out Stages.out
  rw [er, ed]
  exact quotient_eq (A.cdf (A.x a n p q) r) _ _ (cdf_kernel A (A.x a n p q) hr hd (fun k => g k * al + be) (ed 0 0) hG)
    (fun k => (congrArg (Stages.cdf (Ideal.div (A.x a n p q) (r : EReal)) · (d : EReal)) (hG' p q k)).trans (cdf_exp _ _ hr hd)) hf
    (A.u a n p q) v ev _ _ (fun k => g k.castSucc * al + be) (fun k => hG k.castSucc) (fun k => hG' p q k.castSucc) r

/-- The mean: block by block in the kernel, at once in the reference. -/
theorem mean_blocks (H : Plain A) (p q : Fin 8) :
    (∑ d : Fin 2, ∑ j ∈ Finset.range 64, A.part ⟨p.val * 8 + q.val, by omega⟩ (d.val * 64 + j))
      = ∑ k : Fin 16384, FloatOps.absf (F := Ideal) (φ := .f32)
          (Ideal.div (A.x ⟨k.val / 1024, by omega⟩ ⟨k.val % 1024, by omega⟩ p q) (A.rz A.i p q)) := by
  obtain ⟨r, hr, er⟩ := H.rz A.i p q
  have hp : (⟨(p.val * 8 + q.val) / 8, by omega⟩ : Fin 8) = p := Fin.ext (by dsimp only; omega)
  have hq : (⟨(p.val * 8 + q.val) % 8, by omega⟩ : Fin 8) = q := Fin.ext (by dsimp only; omega)
  let h : ℕ → EReal := fun k => if e : k < 16384 then FloatOps.absf (F := Ideal) (φ := .f32)
    (Ideal.div (A.x ⟨k / 1024, by omega⟩ ⟨k % 1024, by omega⟩ p q) (A.rz A.i p q)) else 0
  have hh : ∀ (k : ℕ) (e : k < 16384), h k = FloatOps.absf (F := Ideal) (φ := .f32)
    (Ideal.div (A.x ⟨k / 1024, by omega⟩ ⟨k % 1024, by omega⟩ p q) (A.rz A.i p q)) := fun k e => dif_pos e
  have hpart : ∀ t, t < 128 → A.part ⟨p.val * 8 + q.val, by omega⟩ t = ∑ a ∈ Finset.range 128, h (t * 128 + a) := fun t ht => by
    unfold Args.part
    rw [dif_pos ht, Finset.sum_range]
    refine Finset.sum_congr rfl fun a _ => ?_
    rw [hh (t * 128 + a.val) (by omega)]
    unfold Args.xrow Args.r
    dsimp only
    rw [hp, hq, er]
    exact (abs_div _ hr).symm
  calc _ = ∑ t ∈ Finset.range (2 * 64), A.part ⟨p.val * 8 + q.val, by omega⟩ t := by
        rw [sum_blocks _ 64 2, Finset.sum_range]
    _ = ∑ t ∈ Finset.range 128, ∑ a ∈ Finset.range 128, h (t * 128 + a) :=
        Finset.sum_congr rfl fun t ht => hpart t (Finset.mem_range.1 ht)
    _ = ∑ k ∈ Finset.range (128 * 128), h k := (sum_blocks h 128 128).symm
    _ = ∑ k ∈ Finset.range 16384, h k := rfl
    _ = _ := by
        rw [Finset.sum_range]
        exact Finset.sum_congr rfl fun k _ => hh k.val k.isLt

end Cert.Equation

end
-- ==== Proof.Agree.lean ====
/-
  From the precondition to the results: the arguments as curried functions, and the reference's three results equal to
  the kernel's from memories that agree on the arguments.
-/
module

public import proofs.«01_k».proof.Defs
public import proofs.«01_k».proof.Proof.Gen.KernelIdeal
public import proofs.«01_k».proof.Proof.Gen.ReferenceIdeal
public import proofs.«01_k».proof.Proof.Pre
public import proofs.«01_k».proof.Proof.Equation

@[expose] public section

noncomputable section

namespace Cert.Agree

open Idealize.ShloMosaic Idealize.ShloMosaic.TcCoe Idealize.SL.Sem
open Cert.KernelIdeal.Entry Cert.Equation Cert.Pre_valid
open Cert.ReferenceIdeal (Stages.opsAll)

variable (m : (ℓ : Loc Cert.KernelIdeal.nD Cert.KernelIdeal.τ Cert.KernelIdeal.sig) → Buf (Elt Ideal) ℓ) (c : Dev Cert.KernelIdeal.nD)

/-- Under the precondition the arguments are what the equation asks of them. -/
theorem args_of (h : Pre_KernelIdeal_valid m) : ∃ A : Args m c, Plain A := by
  obtain ⟨h0, h1, h2, h3, h4, h5, h6, h7⟩ := h c
  obtain ⟨i, hi⟩ := Says.row_of _ _ _ _ _ _ _ _ h0
  exact ⟨{
    x := fun a n p q => (m (c, Proc.devRef .tc Cert.KernelIdeal.main_arg0) : FVec Ideal S16x1x1024x8x8 .f32) (ix5 a 0 n p q)
    rz := fun k p q => (m (c, Proc.devRef .tc Cert.KernelIdeal.main_arg1) : FVec Ideal S3x8x8 .f32) (ix3 k p q)
    al := fun p q => (m (c, Proc.devRef .tc Cert.KernelIdeal.main_arg2) : FVec Ideal S8x8 .f32) (ix2 p q)
    be := fun p q => (m (c, Proc.devRef .tc Cert.KernelIdeal.main_arg3) : FVec Ideal S8x8 .f32) (ix2 p q)
    dv := fun p q => (m (c, Proc.devRef .tc Cert.KernelIdeal.main_arg4) : FVec Ideal S8x8 .f32) (ix2 p q)
    gb := fun p q k => (m (c, Proc.devRef .tc Cert.KernelIdeal.main_arg5) : FVec Ideal S8x8x257 .f32) (ix3 p q k)
    u := fun a n p q k => (m (c, Proc.devRef .tc Cert.KernelIdeal.main_arg6) : FVec Ideal S16x1x1024x8x8x256 .f32) (ix6 a 0 n p q k)
    i := i
    hx := fun _ _ _ _ => rfl
    hr := fun _ _ _ => rfl
    ha := fun _ _ => rfl
    hb := fun _ _ => rfl
    hd := fun _ _ => rfl
    hg := fun _ _ _ => rfl
    hu := fun _ _ _ _ _ => rfl
    hi := hi }, {
    rz := Says.scale_of _ _ _ _ _ _ _ _ h1
    al := Says.step_of _ _ _ _ _ _ _ _ h2
    be := Says.offset_of _ _ _ _ _ _ _ _ h3
    dv := Says.deviation_of _ _ _ _ _ _ _ _ h4
    gb := Says.grid_of _ _ _ _ _ _ _ _ h5 h6
    u := Says.noise_of _ _ _ _ _ _ _ _ h7 }⟩

variable (W : Cert.ReferenceIdeal.Stages.Val)
  (e0 : W (Proc.devRef .tc Cert.ReferenceIdeal.main_arg0) = m (c, Proc.devRef .tc Cert.KernelIdeal.main_arg0))
  (e1 : W (Proc.devRef .tc Cert.ReferenceIdeal.main_arg1) = m (c, Proc.devRef .tc Cert.KernelIdeal.main_arg1))
  (e2 : W (Proc.devRef .tc Cert.ReferenceIdeal.main_arg2) = m (c, Proc.devRef .tc Cert.KernelIdeal.main_arg2))
  (e3 : W (Proc.devRef .tc Cert.ReferenceIdeal.main_arg3) = m (c, Proc.devRef .tc Cert.KernelIdeal.main_arg3))
  (e4 : W (Proc.devRef .tc Cert.ReferenceIdeal.main_arg4) = m (c, Proc.devRef .tc Cert.KernelIdeal.main_arg4))
  (e5 : W (Proc.devRef .tc Cert.ReferenceIdeal.main_arg5) = m (c, Proc.devRef .tc Cert.KernelIdeal.main_arg5))
  (e6 : W (Proc.devRef .tc Cert.ReferenceIdeal.main_arg6) = m (c, Proc.devRef .tc Cert.KernelIdeal.main_arg6))
  (e7 : W (Proc.devRef .tc Cert.ReferenceIdeal.main_arg7) = m (c, Proc.devRef .tc Cert.KernelIdeal.main_arg7))

include e0 e1 e2 e3 e4 e5 e6 e7 in
/-- The first result. -/
theorem first (h : Pre_KernelIdeal_valid m) :
    StableHlo.after Stages.opsAll W (Proc.devRef .tc Cert.ReferenceIdeal.main_v80) = last m c Cert.KernelIdeal.main_v61 := by
  obtain ⟨A, H⟩ := args_of m c h
  refine funext fun (j : S16x1x1024x8x8.Idx) => ?_
  obtain ⟨a, b, n, p, q, rfl⟩ : ∃ a b n p q, j = ix5 a b n p q := ⟨j 0, j 1, j 2, j 3, j 4, eq_ix5 j⟩
  obtain rfl : b = 0 := Subsingleton.elim _ _
  refine (Cert.ReferenceIdeal.Stages.first_at W A.x A.rz A.al A.be A.dv A.gb A.u A.i ?_ ?_ ?_ ?_ ?_ ?_ ?_ ?_ _ _ _ _).trans
    ((out_eq A H _ _ _ _).symm.trans (last_first m c A _ _ _ _).symm)
  · intro a n p q; rw [e0]; exact A.hx a n p q
  · intro k p q; rw [e1]; exact A.hr k p q
  · intro p q; rw [e2]; exact A.ha p q
  · intro p q; rw [e3]; exact A.hb p q
  · intro p q; rw [e4]; exact A.hd p q
  · intro p q k; rw [e5]; exact A.hg p q k
  · intro a n p q k; rw [e6]; exact A.hu a n p q k
  · rw [e7]; exact A.hi

include e0 e1 e7 in
/-- The second result. -/
theorem second (h : Pre_KernelIdeal_valid m) :
    StableHlo.after Stages.opsAll W (Proc.devRef .tc Cert.ReferenceIdeal.main_v18) = last m c Cert.KernelIdeal.main_v65 := by
  obtain ⟨A, H⟩ := args_of m c h
  refine funext fun (j : S8x8.Idx) => ?_
  obtain ⟨p, q, rfl⟩ : ∃ p q, j = ix2 p q := ⟨j 0, j 1, eq_ix2 j⟩
  refine (Cert.ReferenceIdeal.Stages.second_at W A.x A.rz A.i ?_ ?_ ?_ p q).trans ?_
  rotate_right
  · rw [← mean_blocks A H p q]
    exact (last_second m c A p q).symm
  · intro a n p q; rw [e0]; exact A.hx a n p q
  · intro k p q; rw [e1]; exact A.hr k p q
  · rw [e7]; exact A.hi

/-- The third result, the constant zero. -/
theorem third :
    StableHlo.after Stages.opsAll W (Proc.devRef .tc Cert.ReferenceIdeal.main_cst_31) = last m c Cert.KernelIdeal.main_cst_9 := by
  refine (Cert.ReferenceIdeal.Stages.third_eq W).trans ?_
  unfold last
  exact (Cert.KernelIdeal.Entry.third_eq _).symm

end Cert.Agree

end
-- ==== Proof.lean ====
/-
  The claim, assembled: the frames of the three programs, and the equality of the results.
-/
module

public import proofs.«01_k».proof.Defs
public import proofs.«01_k».proof.Proof.Gen.Kernel.Frame
public import proofs.«01_k».proof.Proof.Gen.KernelIdeal.Frame
public import proofs.«01_k».proof.Proof.RefStages
public import proofs.«01_k».proof.Proof.RefRun
public import proofs.«01_k».proof.Proof.Agree

@[expose] public section

noncomputable section

namespace Cert.Proof

open Idealize.ShloMosaic Idealize.SL.Sem
open Cert.ReferenceIdeal.Stages

/-- The reference's arguments end as they began, and every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
        ∧ r.2.sem = fun _ => 0) :=
  (θ_run _ _ _).mono (fun r h => ⟨fun c =>
    ⟨(h.1 c _).trans (kept_all _ _ (by decide)), (h.1 c _).trans (kept_all _ _ (by decide)),
      (h.1 c _).trans (kept_all _ _ (by decide)), (h.1 c _).trans (kept_all _ _ (by decide)),
      (h.1 c _).trans (kept_all _ _ (by decide)), (h.1 c _).trans (kept_all _ _ (by decide)),
      (h.1 c _).trans (kept_all _ _ (by decide)), (h.1 c _).trans (kept_all _ _ (by decide))⟩, h.2⟩)
    (run_stages m ρ)

/-- Both programs run from agreeing memories to the same three results, their arguments unchanged. -/
theorem results_agree : Cert.algebraic_KernelIdeal_ReferenceIdeal_pre_valid := by
  intro m ρ m' ρ' hp hm
  refine ⟨fun c => Cert.KernelIdeal.Entry.last m c Cert.KernelIdeal.main_v61, fun c => Cert.KernelIdeal.Entry.last m c Cert.KernelIdeal.main_v65,
    fun c => Cert.KernelIdeal.Entry.last m c Cert.KernelIdeal.main_cst_9, Cert.KernelIdeal.Entry.run m ρ, ?_⟩
  refine (θ_run _ _ _).mono (fun r h c => ?_) (θ_run_and (run_stages m' ρ') (reference_frame m' ρ'))
  obtain ⟨e0, e1, e2, e3, e4, e5, e6, e7⟩ := hm c
  exact ⟨(h.1.1 c _).trans (Cert.Agree.first m c _ e0 e1 e2 e3 e4 e5 e6 e7 hp),
    (h.1.1 c _).trans (Cert.Agree.second m c _ e0 e1 e7 hp),
    (h.1.1 c _).trans (Cert.Agree.third m c _), h.2.1 c⟩

/-- Every claim of the certificate. -/
theorem claim : Cert.Claim :=
  ⟨Cert.Kernel.Gen.facts, Cert.KernelIdeal.Gen.facts, Cert.ReferenceIdeal.Gen.facts, Cert.Pre_valid.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, results_agree⟩

end Cert.Proof

end
